-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_3)) (v1 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_3) = v0 c
          ∧ r.2.mem ((c.tc : Thread Cert.KernelIdeal.nD Cert.KernelIdeal.τ).loc Cert.KernelIdeal.main_v7_4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x11008 : Shape := ⟨2, ![4096, 11008]⟩
abbrev S11008 : Shape := ⟨1, ![11008]⟩
abbrev S11008x256 : Shape := ⟨2, ![11008, 256]⟩
abbrev S256x11008 : Shape := ⟨2, ![256, 11008]⟩
abbrev S4096x256 : Shape := ⟨2, ![4096, 256]⟩
abbrev S8x128 : Shape := ⟨2, ![8, 128]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : FVec F S4096x11008 .bf16) (main_arg1 : IVec S4096x11008 8) (main_arg2 : FVec F S11008 .f32) (main_arg3 : FVec F S11008x256 .bf16) (main_arg4 : FVec F S256x11008 .bf16) (main_arg5 : FVec F S4096x256 .bf16) (main_arg6 : FVec F S8x128 .f32) : IVec S_ 1 :=
  let main_cst : FVec F S_ .f32 := constant S_ .f32 0x00000000#32
  let main_v0 : FVec F S8x128 .f32 := broadcastInDim S8x128 ![] bcast_S_S8x128 main_cst
  let main_v1 : IVec S8x128 1 := cmpf .oge main_arg6 main_v0
  let main_cst_0 : FVec F S_ .f32 := constant S_ .f32 0x7F7FFFFF#32
  let main_v2 : FVec F S8x128 .f32 := broadcastInDim S8x128 ![] bcast_S_S8x128 main_cst_0
  let main_v3 : IVec S8x128 1 := cmpf .ole main_arg6 main_v2
  let main_v4 : IVec S8x128 1 := andi main_v1 main_v3
  let main_c : IVec S_ 1 := constantI S_ 1 1#1
  let main_v5 : IVec S_ 1 := (fun x v => Host.reduce IntOp.andi x v reducesTo_S8x128_S_d0_1 h_S_) main_v4 main_c
  main_v5
-- ==== Kernel.lean ====
abbrev S4096x11008 : Shape := ⟨2, ![4096, 11008]⟩
abbrev S11008 : Shape := ⟨1, ![11008]⟩
abbrev S11008x256 : Shape := ⟨2, ![11008, 256]⟩
abbrev S256x11008 : Shape := ⟨2, ![256, 11008]⟩
abbrev S4096x256 : Shape := ⟨2, ![4096, 256]⟩
abbrev S8x128 : Shape := ⟨2, ![8, 128]⟩
abbrev S256x256 : Shape := ⟨2, ![256, 256]⟩
abbrev S1x256x1x256 : Shape := ⟨4, ![1, 256, 1, 256]⟩
abbrev S43x256x1x256 : Shape := ⟨4, ![43, 256, 1, 256]⟩
abbrev S11008x1 : Shape := ⟨2, ![11008, 1]⟩
abbrev S4096x5504 : Shape := ⟨2, ![4096, 5504]⟩
abbrev S4096x688 : Shape := ⟨2, ![4096, 688]⟩
abbrev S256x4096 : Shape := ⟨2, ![256, 4096]⟩
abbrev S128x11008 : Shape := ⟨2, ![128, 11008]⟩
abbrev S128x256 : Shape := ⟨2, ![128, 256]⟩
abbrev S128x5504 : Shape := ⟨2, ![128, 5504]⟩
abbrev S128x688 : Shape := ⟨2, ![128, 688]⟩
abbrev S256x128 : Shape := ⟨2, ![256, 128]⟩
abbrev S128x2048 : Shape := ⟨2, ![128, 2048]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x128 : Shape := ⟨2, ![1, 128]⟩
abbrev S128x128 : Shape := ⟨2, ![128, 128]⟩
abbrev S128x128x1 : Shape := ⟨3, ![128, 128, 1]⟩
abbrev S32x128 : Shape := ⟨2, ![32, 128]⟩
abbrev S32x128x1 : Shape := ⟨3, ![32, 128, 1]⟩
abbrev S128x1024 : Shape := ⟨2, ![128, 1024]⟩
abbrev S2048x256 : Shape := ⟨2, ![2048, 256]⟩
abbrev S256x2048 : Shape := ⟨2, ![256, 2048]⟩
abbrev S128x768 : Shape := ⟨2, ![128, 768]⟩
abbrev S128x48 : Shape := ⟨2, ![128, 48]⟩
abbrev S128x384 : Shape := ⟨2, ![128, 384]⟩
abbrev S768x256 : Shape := ⟨2, ![768, 256]⟩
abbrev S256x768 : Shape := ⟨2, ![256, 768]⟩

abbrev nBuf : Space → Nat
  | .hbm => 21
  | .vmem => 23
  | .smem => 0
  | _ => 0

abbrev bufTy : (tb : Table) → Fin (tcTables nBuf tb) → BufTy
  | .hbm, ⟨0, _⟩ => ⟨S4096x11008, .bf16⟩
  | .hbm, ⟨1, _⟩ => ⟨S4096x11008, .i8⟩
  | .hbm, ⟨2, _⟩ => ⟨S11008, .f32⟩
  | .hbm, ⟨3, _⟩ => ⟨S11008x256, .bf16⟩
  | .hbm, ⟨4, _⟩ => ⟨S256x11008, .bf16⟩
  | .hbm, ⟨5, _⟩ => ⟨S4096x256, .bf16⟩
  | .hbm, ⟨6, _⟩ => ⟨S8x128, .f32⟩
  | .hbm, ⟨7, _⟩ => ⟨S256x256, .bf16⟩
  | .hbm, ⟨8, _⟩ => ⟨S256x256, .bf16⟩
  | .hbm, ⟨9, _⟩ => ⟨S1x256x1x256, .bf16⟩
  | .hbm, ⟨10, _⟩ => ⟨S43x256x1x256, .bf16⟩
  | .hbm, ⟨11, _⟩ => ⟨S11008x256, .bf16⟩
  | .hbm, ⟨12, _⟩ => ⟨S11008, .bf16⟩
  | .hbm, ⟨13, _⟩ => ⟨S11008x1, .bf16⟩
  | .hbm, ⟨14, _⟩ => ⟨S11008x256, .bf16⟩
  | .hbm, ⟨15, _⟩ => ⟨S11008x256, .bf16⟩
  | .hbm, ⟨16, _⟩ => ⟨S4096x5504, .i8⟩
  | .hbm, ⟨17, _⟩ => ⟨S4096x688, .fp8e4m3⟩
  | .hbm, ⟨18, _⟩ => ⟨S8x128, .f32⟩
  | .hbm, ⟨19, _⟩ => ⟨S256x4096, .bf16⟩
  | .hbm, ⟨20, _⟩ => ⟨S4096x11008, .f32⟩
  | .local _ .vmem, ⟨0, _⟩ => ⟨S128x11008, .bf16⟩
  | .local _ .vmem, ⟨1, _⟩ => ⟨S128x11008, .bf16⟩
  | .local _ .vmem, ⟨2, _⟩ => ⟨S128x11008, .i8⟩
  | .local _ .vmem, ⟨3, _⟩ => ⟨S128x11008, .i8⟩
  | .local _ .vmem, ⟨4, _⟩ => ⟨S11008x256, .bf16⟩
  | .local _ .vmem, ⟨5, _⟩ => ⟨S11008x256, .bf16⟩
  | .local _ .vmem, ⟨6, _⟩ => ⟨S256x11008, .bf16⟩
  | .local _ .vmem, ⟨7, _⟩ => ⟨S128x256, .bf16⟩
  | .local _ .vmem, ⟨8, _⟩ => ⟨S128x256, .bf16⟩
  | .local _ .vmem, ⟨9, _⟩ => ⟨S256x256, .bf16⟩
  | .local _ .vmem, ⟨10, _⟩ => ⟨S8x128, .f32⟩
  | .local _ .vmem, ⟨11, _⟩ => ⟨S128x5504, .i8⟩
  | .local _ .vmem, ⟨12, _⟩ => ⟨S128x5504, .i8⟩
  | .local _ .vmem, ⟨13, _⟩ => ⟨S128x688, .fp8e4m3⟩
  | .local _ .vmem, ⟨14, _⟩ => ⟨S128x688, .fp8e4m3⟩
  | .local _ .vmem, ⟨15, _⟩ => ⟨S8x128, .f32⟩
  | .local _ .vmem, ⟨16, _⟩ => ⟨S256x128, .bf16⟩
  | .local _ .vmem, ⟨17, _⟩ => ⟨S256x128, .bf16⟩
  | .local _ .vmem, ⟨18, _⟩ => ⟨S128x11008, .f32⟩
  | .local _ .vmem, ⟨19, _⟩ => ⟨S128x11008, .f32⟩
  | .local _ .vmem, ⟨20, _⟩ => ⟨S128x2048, .f32⟩
  | .local _ .vmem, ⟨21, _⟩ => ⟨S128x2048, .fp8e5m2⟩
  | .local _ .vmem, ⟨22, _⟩ => ⟨S128x2048, .bf16⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11008 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11008x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11008x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x5504 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x688 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x11008 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x11008 : Shape := ⟨2, ![4096, 11008]⟩
abbrev S11008 : Shape := ⟨1, ![11008]⟩
abbrev S11008x256 : Shape := ⟨2, ![11008, 256]⟩
abbrev S256x11008 : Shape := ⟨2, ![256, 11008]⟩
abbrev S4096x256 : Shape := ⟨2, ![4096, 256]⟩
abbrev S8x128 : Shape := ⟨2, ![8, 128]⟩
abbrev S253 : Shape := ⟨1, ![253]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S_ : Shape := ⟨0, ![]⟩
abbrev S1x11008 : Shape := ⟨2, ![1, 11008]⟩
abbrev S4096x344x32 : Shape := ⟨3, ![4096, 344, 32]⟩
abbrev S4096x688x16 : Shape := ⟨3, ![4096, 688, 16]⟩
abbrev S4096x688 : Shape := ⟨2, ![4096, 688]⟩
abbrev S4096x688x1 : Shape := ⟨3, ![4096, 688, 1]⟩
abbrev S43x2x8x16x256 : Shape := ⟨5, ![43, 2, 8, 16, 256]⟩
abbrev S43x16x8x2x256 : Shape := ⟨5, ![43, 16, 8, 2, 256]⟩
abbrev S256x4096 : Shape := ⟨2, ![256, 4096]⟩

abbrev nBuf : Space → Nat
  | .hbm => 185
  | .vmem => 0
  | .smem => 0
  | _ => 0

abbrev hbmTy0_0 (i : Nat) : BufTy := match i % 128 with
  | 0 => ⟨S4096x11008, .bf16⟩
  | 1 => ⟨S4096x11008, .i8⟩
  | 2 => ⟨S11008, .f32⟩
  | 3 => ⟨S11008x256, .bf16⟩
  | 4 => ⟨S256x11008, .bf16⟩
  | 5 => ⟨S4096x256, .bf16⟩
  | 6 => ⟨S8x128, .f32⟩
  | 7 => ⟨S253, .f32⟩
  | 8 => ⟨S32, .i32⟩
  | 9 => ⟨S32x1, .i32⟩
  | 10 => ⟨S1x32, .i32⟩
  | 11 => ⟨S32x32, .i32⟩
  | 12 => ⟨S32x32, .i32⟩
  | 13 => ⟨S32x32, .i32⟩
  | 14 => ⟨S_, .i32⟩
  | 15 => ⟨S32x32, .i32⟩
  | 16 => ⟨S_, .i32⟩
  | 17 => ⟨S32x32, .i32⟩
  | 18 => ⟨S32x32, .i32⟩
  | 19 => ⟨S_, .i32⟩
  | 20 => ⟨S32x32, .i32⟩
  | 21 => ⟨S32x32, .i32⟩
  | 22 => ⟨S32x32, .i32⟩
  | 23 => ⟨S_, .i32⟩
  | 24 => ⟨S32x32, .i32⟩
  | 25 => ⟨S32x32, .i32⟩
  | 26 => ⟨S_, .i32⟩
  | 27 => ⟨S32x32, .i32⟩
  | 28 => ⟨S32x32, .i32⟩
  | 29 => ⟨S32x32, .i32⟩
  | 30 => ⟨S_, .i32⟩
  | 31 => ⟨S32x32, .i32⟩
  | 32 => ⟨S32x32, .i32⟩
  | 33 => ⟨S_, .i32⟩
  | 34 => ⟨S32x32, .i32⟩
  | 35 => ⟨S32x32, .i32⟩
  | 36 => ⟨S32x32, .i32⟩
  | 37 => ⟨S_, .i32⟩
  | 38 => ⟨S32x32, .i32⟩
  | 39 => ⟨S32x32, .i32⟩
  | 40 => ⟨S_, .i32⟩
  | 41 => ⟨S32x32, .i32⟩
  | 42 => ⟨S32x32, .i32⟩
  | 43 => ⟨S32x32, .i32⟩
  | 44 => ⟨S_, .i32⟩
  | 45 => ⟨S32x32, .i32⟩
  | 46 => ⟨S32x32, .i32⟩
  | 47 => ⟨S_, .i32⟩
  | 48 => ⟨S32x32, .i32⟩
  | 49 => ⟨S32x32, .i32⟩
  | 50 => ⟨S32x32, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S32x32, .i32⟩
  | 58 => ⟨S32x32, .i32⟩
  | 59 => ⟨S_, .i32⟩
  | 60 => ⟨S32x32, .i32⟩
  | 61 => ⟨S32x32, .i1⟩
  | 62 => ⟨S_, .i32⟩
  | 63 => ⟨S32x32, .i32⟩
  | 64 => ⟨S32x32, .i1⟩
  | 65 => ⟨S_, .i32⟩
  | 66 => ⟨S_, .i1⟩
  | 67 => ⟨S32x32, .i1⟩
  | 68 => ⟨S32x32, .i1⟩
  | 69 => ⟨S32x32, .i1⟩
  | 70 => ⟨S32x32, .i32⟩
  | 71 => ⟨S32x32, .i32⟩
  | 72 => ⟨S32x32, .i32⟩
  | 73 => ⟨S_, .i32⟩
  | 74 => ⟨S32x32, .i32⟩
  | 75 => ⟨S32x32, .i1⟩
  | 76 => ⟨S_, .f32⟩
  | 77 => ⟨S_, .f32⟩
  | 78 => ⟨S32x32, .f32⟩
  | 79 => ⟨S32x32, .f32⟩
  | 80 => ⟨S32x32, .f32⟩
  | 81 => ⟨S4096x11008, .f32⟩
  | 82 => ⟨S1x11008, .f32⟩
  | 83 => ⟨S4096x11008, .f32⟩
  | 84 => ⟨S4096x11008, .f32⟩
  | 85 => ⟨S4096x344x32, .f32⟩
  | 86 => ⟨S4096x344x32, .f32⟩
  | 87 => ⟨S_, .f32⟩
  | 88 => ⟨S_, .f32⟩
  | 89 => ⟨S_, .f32⟩
  | 90 => ⟨S_, .f32⟩
  | 91 => ⟨S_, .f32⟩
  | 92 => ⟨S_, .i1⟩
  | 93 => ⟨S_, .f32⟩
  | 94 => ⟨S_, .f32⟩
  | 95 => ⟨S253, .f32⟩
  | 96 => ⟨S253, .i1⟩
  | 97 => ⟨S_, .f32⟩
  | 98 => ⟨S253, .f32⟩
  | 99 => ⟨S253, .f32⟩
  | 100 => ⟨S_, .f32⟩
  | 101 => ⟨S_, .f32⟩
  | 102 => ⟨S_, .f32⟩
  | 103 => ⟨S_, .f32⟩
  | 104 => ⟨S_, .f32⟩
  | 105 => ⟨S4096x688x16, .f32⟩
  | 106 => ⟨S4096x688x16, .i8⟩
  | 107 => ⟨S4096x688x16, .i32⟩
  | 108 => ⟨S4096x688x16, .f32⟩
  | 109 => ⟨S4096x688x16, .f32⟩
  | 110 => ⟨S_, .f32⟩
  | 111 => ⟨S4096x688, .f32⟩
  | 112 => ⟨S4096x688x1, .f32⟩
  | 113 => ⟨S_, .f32⟩
  | 114 => ⟨S4096x688x1, .f32⟩
  | 115 => ⟨S4096x688x1, .i1⟩
  | 116 => ⟨S_, .f32⟩
  | 117 => ⟨S4096x688x1, .f32⟩
  | 118 => ⟨S4096x688x1, .f32⟩
  | 119 => ⟨S4096x688x1, .f32⟩
  | 120 => ⟨S4096x688x1, .f32⟩
  | 121 => ⟨S_, .f32⟩
  | 122 => ⟨S4096x688x1, .f32⟩
  | 123 => ⟨S4096x688x1, .f32⟩
  | 124 => ⟨S4096x688x1, .f32⟩
  | 125 => ⟨S4096x688x1, .f32⟩
  | 126 => ⟨S4096x688x16, .f32⟩
  | 127 => ⟨S4096x688x16, .f32⟩
  | _ => ⟨S4096x11008, .bf16⟩

abbrev hbmTy0_1 (i : Nat) : BufTy := match i % 128 with
  | 0 => ⟨S_, .f32⟩
  | 1 => ⟨S_, .f32⟩
  | 2 => ⟨S_, .f32⟩
  | 3 => ⟨S4096x688x16, .f32⟩
  | 4 => ⟨S4096x688x16, .f32⟩
  | 5 => ⟨S_, .f32⟩
  | 6 => ⟨S4096x688x16, .f32⟩
  | 7 => ⟨S4096x688x16, .f32⟩
  | 8 => ⟨S4096x688x16, .f32⟩
  | 9 => ⟨S_, .f32⟩
  | 10 => ⟨S4096x688x16, .f32⟩
  | 11 => ⟨S4096x688x16, .i1⟩
  | 12 => ⟨S_, .f32⟩
  | 13 => ⟨S4096x688x16, .f32⟩
  | 14 => ⟨S4096x688x16, .i1⟩
  | 15 => ⟨S_, .f32⟩
  | 16 => ⟨S_, .f32⟩
  | 17 => ⟨S4096x688x16, .f32⟩
  | 18 => ⟨S4096x688x16, .f32⟩
  | 19 => ⟨S4096x688x16, .f32⟩
  | 20 => ⟨S_, .f32⟩
  | 21 => ⟨S4096x688x16, .f32⟩
  | 22 => ⟨S4096x688x16, .f32⟩
  | 23 => ⟨S4096x688x16, .f32⟩
  | 24 => ⟨S4096x688x16, .f32⟩
  | 25 => ⟨S4096x688x16, .f32⟩
  | 26 => ⟨S_, .f32⟩
  | 27 => ⟨S4096x688x16, .f32⟩
  | 28 => ⟨S4096x688x16, .f32⟩
  | 29 => ⟨S_, .f32⟩
  | 30 => ⟨S4096x688x16, .f32⟩
  | 31 => ⟨S4096x688x16, .f32⟩
  | 32 => ⟨S4096x688x16, .f32⟩
  | 33 => ⟨S4096x688x16, .f32⟩
  | 34 => ⟨S4096x688x16, .i1⟩
  | 35 => ⟨S4096x688x16, .f32⟩
  | 36 => ⟨S4096x688x16, .f32⟩
  | 37 => ⟨S4096x688x16, .f32⟩
  | 38 => ⟨S_, .f32⟩
  | 39 => ⟨S4096x688x16, .f32⟩
  | 40 => ⟨S4096x688x16, .i1⟩
  | 41 => ⟨S4096x688x16, .f32⟩
  | 42 => ⟨S4096x688x16, .f32⟩
  | 43 => ⟨S4096x688x16, .bf16⟩
  | 44 => ⟨S4096x688x1, .bf16⟩
  | 45 => ⟨S_, .bf16⟩
  | 46 => ⟨S4096x688x1, .bf16⟩
  | 47 => ⟨S4096x688x1, .bf16⟩
  | 48 => ⟨S4096x688x16, .bf16⟩
  | 49 => ⟨S4096x688x16, .bf16⟩
  | 50 => ⟨S4096x11008, .bf16⟩
  | 51 => ⟨S43x2x8x16x256, .bf16⟩
  | 52 => ⟨S43x16x8x2x256, .bf16⟩
  | 53 => ⟨S11008x256, .bf16⟩
  | 54 => ⟨S256x4096, .f32⟩
  | 55 => ⟨S256x4096, .bf16⟩
  | 56 => ⟨S4096x11008, .f32⟩
  | _ => ⟨S4096x11008, .bf16⟩

abbrev hbmTy (i : Nat) : BufTy := match i / 128 with
  | 0 => hbmTy0_0 i
  | 1 => hbmTy0_1 i
  | _ => ⟨S4096x11008, .bf16⟩

abbrev bufTy : (tb : Table) → Fin (tcTables nBuf tb) → BufTy
  | .hbm, ⟨i, _⟩ => hbmTy i
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_c_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_c_1 : Ref sig .tc := ⟨.hbm, 59, rfl⟩
abbrev main_call0_v5 : Ref sig .tc := ⟨.hbm, 60, rfl⟩
abbrev main_call0_v6 : Ref sig .tc := ⟨.hbm, 61, rfl⟩
abbrev main_call0_c_2 : Ref sig .tc := ⟨.hbm, 62, rfl⟩
abbrev main_call0_v7 : Ref sig .tc := ⟨.hbm, 63, rfl⟩
abbrev main_call0_v8 : Ref sig .tc := ⟨.hbm, 64, rfl⟩
abbrev main_call0_c_3 : Ref sig .tc := ⟨.hbm, 65, rfl⟩
abbrev main_call0_v9 : Ref sig .tc := ⟨.hbm, 66, rfl⟩
abbrev main_call0_v10 : Ref sig .tc := ⟨.hbm, 67, rfl⟩
abbrev main_call0_v11 : Ref sig .tc := ⟨.hbm, 68, rfl⟩
abbrev main_call0_v12 : Ref sig .tc := ⟨.hbm, 69, rfl⟩
abbrev main_call0_v13 : Ref sig .tc := ⟨.hbm, 70, rfl⟩
abbrev main_call0_v14 : Ref sig .tc := ⟨.hbm, 71, rfl⟩
abbrev main_v32 : Ref sig .tc := ⟨.hbm, 72, rfl⟩
abbrev main_c_11 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_cst_13 : Ref sig .tc := ⟨.hbm, 77, rfl⟩
abbrev main_call1_v0 : Ref sig .tc := ⟨.hbm, 78, rfl⟩
abbrev main_call1_v1 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_14 : Ref sig .tc := ⟨.hbm, 87, rfl⟩
abbrev main_v42 : Ref sig .tc := ⟨.hbm, 88, rfl⟩
abbrev main_cst_15 : Ref sig .tc := ⟨.hbm, 89, rfl⟩
abbrev main_v43 : Ref sig .tc := ⟨.hbm, 90, rfl⟩
abbrev main_cst_16 : Ref sig .tc := ⟨.hbm, 91, rfl⟩
abbrev main_v44 : Ref sig .tc := ⟨.hbm, 92, rfl⟩
abbrev main_cst_17 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_18 : Ref sig .tc := ⟨.hbm, 97, rfl⟩
abbrev main_call2_v0 : Ref sig .tc := ⟨.hbm, 98, rfl⟩
abbrev main_v48 : Ref sig .tc := ⟨.hbm, 99, rfl⟩
abbrev main_cst_19 : Ref sig .tc := ⟨.hbm, 100, rfl⟩
abbrev main_v49 : Ref sig .tc := ⟨.hbm, 101, rfl⟩
abbrev main_cst_20 : Ref sig .tc := ⟨.hbm, 102, rfl⟩
abbrev main_call3_v0 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_21 : Ref sig .tc := ⟨.hbm, 110, rfl⟩
abbrev main_v56 : Ref sig .tc := ⟨.hbm, 111, rfl⟩
abbrev main_v57 : Ref sig .tc := ⟨.hbm, 112, rfl⟩
abbrev main_cst_22 : Ref sig .tc := ⟨.hbm, 113, rfl⟩
abbrev main_v58 : Ref sig .tc := ⟨.hbm, 114, rfl⟩
abbrev main_v59 : Ref sig .tc := ⟨.hbm, 115, rfl⟩
abbrev main_cst_23 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_24 : Ref sig .tc := ⟨.hbm, 121, rfl⟩
abbrev main_call4_v0 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_25 : Ref sig .tc := ⟨.hbm, 128, rfl⟩
abbrev main_cst_26 : Ref sig .tc := ⟨.hbm, 129, rfl⟩
abbrev main_call5_v0 : Ref sig .tc := ⟨.hbm, 130, rfl⟩
abbrev main_call5_v1 : Ref sig .tc := ⟨.hbm, 131, rfl⟩
abbrev main_call5_v2 : Ref sig .tc := ⟨.hbm, 132, rfl⟩
abbrev main_call5_v3 : Ref sig .tc := ⟨.hbm, 133, rfl⟩
abbrev main_call5_v4 : Ref sig .tc := ⟨.hbm, 134, rfl⟩
abbrev main_v69 : Ref sig .tc := ⟨.hbm, 135, rfl⟩
abbrev main_v70 : Ref sig .tc := ⟨.hbm, 136, rfl⟩
abbrev main_cst_27 : Ref sig .tc := ⟨.hbm, 137, rfl⟩
abbrev main_v71 : Ref sig .tc := ⟨.hbm, 138, rfl⟩
abbrev main_v72 : Ref sig .tc := ⟨.hbm, 139, rfl⟩
abbrev main_cst_28 : Ref sig .tc := ⟨.hbm, 140, rfl⟩
abbrev main_v73 : Ref sig .tc := ⟨.hbm, 141, rfl⟩
abbrev main_v74 : Ref sig .tc := ⟨.hbm, 142, rfl⟩
abbrev main_cst_29 : Ref sig .tc := ⟨.hbm, 143, rfl⟩
abbrev main_cst_30 : Ref sig .tc := ⟨.hbm, 144, rfl⟩
abbrev main_call6_v0 : Ref sig .tc := ⟨.hbm, 145, rfl⟩
abbrev main_call6_v1 : Ref sig .tc := ⟨.hbm, 146, rfl⟩
abbrev main_v75 : Ref sig .tc := ⟨.hbm, 147, rfl⟩
abbrev main_cst_31 : Ref sig .tc := ⟨.hbm, 148, rfl⟩
abbrev main_call7_v0 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_32 : Ref sig .tc := ⟨.hbm, 154, rfl⟩
abbrev main_v80 : Ref sig .tc := ⟨.hbm, 155, rfl⟩
abbrev main_v81 : Ref sig .tc := ⟨.hbm, 156, rfl⟩
abbrev main_cst_33 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_34 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩

abbrev nD : Nat := 1
abbrev τ : Topo := Topo.v7x

variable {F : FTy → Type} [FloatOps F]
-- ==== Proof.Dw.lean ====
/- The second large product: block `t` of the kernel's `dw` array is 128 rows of the product of its two operands. The body
   writes the block as six column tiles, each a product of all 128 rows with one slice of columns; read at an index every tile
   is the same sum of 256 products. -/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Dw

open Cert.KernelIdeal Cert.KernelIdeal.Gen Idealize.ShloMosaic Idealize.ShloMosaic.TcCoe Idealize.SL.Sem
open Idealize.ShloMosaic.Pipeline (Dat)

/-- What the body leaves in its `dw` block, at an index: the sum of products over the 256 positions contracted. -/
theorem block_apply (c : Dev nD) (i : grid0.Coords) (arg1 : Memref sig .tc .vmem S128x11008 .bf16) (harg1 : arg1.IsWhole) (arg2 : Memref sig .tc .vmem S128x11008 .i8) (harg2 : arg2.IsWhole) (arg3 : Memref sig .tc .vmem S11008x256 .bf16) (harg3 : arg3.IsWhole) (arg4 : Memref sig .tc .vmem S11008x256 .bf16) (harg4 : arg4.IsWhole) (arg5 : Memref sig .tc .vmem S256x11008 .bf16) (harg5 : arg5.IsWhole) (arg6 : Memref sig .tc .vmem S128x256 .bf16) (harg6 : arg6.IsWhole) (arg7 : Memref sig .tc .vmem S256x256 .bf16) (harg7 : arg7.IsWhole) (arg8 : Memref sig .tc .vmem S8x128 .f32) (harg8 : arg8.IsWhole) (arg9 : Memref sig .tc .vmem S128x5504 .i8) (harg9 : arg9.IsWhole) (arg10 : Memref sig .tc .vmem S128x688 .fp8e4m3) (harg10 : arg10.IsWhole) (arg11 : Memref sig .tc .vmem S8x128 .f32) (harg11 : arg11.IsWhole) (arg12 : Memref sig .tc .vmem S256x128 .bf16) (harg12 : arg12.IsWhole) (arg13 : Memref sig .tc .vmem S128x11008 .f32) (harg13 : arg13.IsWhole) (arg14 : Memref sig .tc .vmem S128x2048 .f32) (harg14 : arg14.IsWhole) (arg15 : Memref sig .tc .vmem S128x2048 .fp8e5m2) (harg15 : arg15.IsWhole) (arg16 : Memref sig .tc .vmem S128x2048 .bf16) (harg16 : arg16.IsWhole)
    (x0 : Vec Ideal S128x11008 .bf16) (x1 : Vec Ideal S128x11008 .i8) (x2 : Vec Ideal S11008x256 .bf16) (x3 : Vec Ideal S11008x256 .bf16) (x4 : Vec Ideal S256x11008 .bf16) (x5 : Vec Ideal S128x256 .bf16) (x6 : Vec Ideal S256x256 .bf16) (x7 : Vec Ideal S8x128 .f32) (y : S128x11008.Idx) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y = ∑ k : Fin 256, x5 (ix2 (y 0) k) * x4 (ix2 k (y 1)) := by
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y
  frame_open at hc ⊢
  simp only [View.read_writes_junk_eq_canon, View.readAt_eq_ld, Memref.IsWhole.read_unread] at hc ⊢
  canon_tiles x h using hc
  all_goals
    open_payloads
    pointwise
    refine Finset.sum_congr rfl fun k _ => ?_
    refine congrArg₂ (· * ·) (congrArg x5 ?_) (congrArg x4 ?_) <;>
      (funext a; refine Fin.ext ?_; fin_cases a <;> simp [ix2] <;> omega)

variable (m : (ℓ : Loc nD τ sig) → Buf (Elt Ideal) ℓ)

/-- The product of two arrays over 256 positions, at an index. -/
def prod (a : S4096x256.Idx → EReal) (b : S256x11008.Idx → EReal) : S4096x11008.Idx → EReal :=
  fun j => ∑ k : Fin 256, a (ix2 (j 0) k) * b (ix2 k (j 1))

theorem idx12 : ∀ t : Fin cfg0.N, win0_12.index t = ![(grid0.coords t 0).val, 0] :=
  (by decide +kernel : ∀ t : Fin grid0.N, _)
theorem idx5 : ∀ t : Fin cfg0.N, win0_5.index t = ![(grid0.coords t 0).val, 0] :=
  (by decide +kernel : ∀ t : Fin grid0.N, _)
theorem idx4 : ∀ t : Fin cfg0.N, win0_4.index t = ![0, 0] :=
  (by decide +kernel : ∀ t : Fin grid0.N, _)

/-- The kernel's whole `dw` array after the run is the product of its sixth and fifth arguments. -/
theorem arr_eq (c : Dev nD) : (dats m 0 c).arrAt 12 cfg0.N =
    prod (m ((c.tc : Thread nD τ).loc main_arg5)) (m ((c.tc : Thread nD τ).loc main_arg4)) := by
  refine (dats m 0 c).arrAt_eq_of_covers 12 _ (by decide +kernel) fun t hf y => ?_
  blk_simp
  rw [after0_12]
  simp only [outsAt0]
  rw [block_apply]
  unfold prod
  refine Fin.sum_fin_congr fun k => congrArg₂ (· * ·) ?_ ?_
  · blk_ext [iblk, V, idx12, idx5]
  · blk_ext [iblk, V, idx12, idx4]

end Cert.Dw
-- ==== Proof.Lit.lean ====
/- The kernel's two constant matrices, read entry by entry. -/
module

public import proofs.«01_k».proof.KernelIdeal
public import Idealize.ShloMosaic.Lib.Decide
public import Idealize.ShloMosaic.Lib.Pointwise

@[expose] public section

set_option maxRecDepth 65536

noncomputable section

namespace Cert.Lit

open Cert.KernelIdeal

/-- The column of the weights' order that a tile's lane holds. -/
def lo (c : ℕ) : ℕ := c % 16 * 16 + (2 * (c % 128 / 16) + c / 128)

/-- Whether `a` and `b` have an odd number of bits in common. -/
def par (a b : ℕ) : Bool :=
  (Nat.land a b).testBit 0 ^^ (Nat.land a b).testBit 1 ^^ (Nat.land a b).testBit 2 ^^ (Nat.land a b).testBit 3 ^^ (Nat.land a b).testBit 4

/-- The rotation's words, one row. -/
def hadRow (i : ℕ) : Bool := (List.range 256).all fun c =>
  if i / 32 = lo c / 32 then (lit0t (256 * i + c) == if par (i % 32) (lo c % 32) then 0xBF80#16 else 0x3F80#16)
  else (lit0t (256 * i + c) == 0#16 || lit0t (256 * i + c) == 0x8000#16)

/-- The permutation's words, one row. -/
def permRow (i : ℕ) : Bool := (List.range 256).all fun c =>
  if i = lo c then lit1t (256 * i + c) == 0xBF80#16
  else (lit1t (256 * i + c) == 0#16 || lit1t (256 * i + c) == 0x8000#16)

end Cert.Lit
-- ==== Proof.Num.lean ====
/- The rounding of one entry, as the kernel does it on words: a magnitude `m` is laid out so that its float word counts in steps
   of the four-bit float's codes, the random byte is added below, and the top bits are the code. Read over the reals this is the
   rounding to 0, 1/2, 1, 3/2, 2, 3, 4, 6 stated with a step, a floor and a comparison. -/
module

public import Idealize.ShloMosaic.Lib.Pointwise
public import Idealize.ShloMosaic.Lib.IdealHost

@[expose] public section

noncomputable section

namespace Cert.Num

open Idealize.ShloMosaic

/-- The float whose exponent is `e`, by its word. -/
def pow2 (e : BitVec 32) : EReal := Ideal.ofBits .f32 (IntOp.shli .vector (IntOp.addi e 127#32) 23#32)

theorem field_exp (E : ℕ) (h2 : E ≤ 254) : ((BitVec.ofNat 32 (E * 8388608)).extractLsb' 23 8).toNat = E := by
  rw [BitVec.extractLsb'_toNat, BitVec.toNat_ofNat, Nat.shiftRight_eq_div_pow]; omega

theorem field_frac (E : ℕ) (h2 : E ≤ 254) : ((BitVec.ofNat 32 (E * 8388608)).extractLsb' 0 23).toNat = 0 := by
  rw [BitVec.extractLsb'_toNat, BitVec.toNat_ofNat, Nat.shiftRight_eq_div_pow]; omega

theorem field_sign (E : ℕ) (h2 : E ≤ 254) : ((BitVec.ofNat 32 (E * 8388608)).extractLsb' 31 1 == 1#1) = false := by
  have h : ((BitVec.ofNat 32 (E * 8388608)).extractLsb' 31 1).toNat = 0 := by
    rw [BitVec.extractLsb'_toNat, BitVec.toNat_ofNat, Nat.shiftRight_eq_div_pow]; omega
  rw [show (BitVec.ofNat 32 (E * 8388608)).extractLsb' 31 1 = 0#1 from BitVec.eq_of_toNat_eq h]
  rfl

theorem ieee_pow (E : ℕ) (h1 : 1 ≤ E) (h2 : E ≤ 254) :
    Ideal.ieee 8 23 (BitVec.ofNat 32 (E * 8388608)) = (((2 : ℝ) ^ ((E : ℤ) - 127) : ℝ) : EReal) := by
  have a := field_exp E h2
  have b := field_frac E h2
  have c := field_sign E h2
  generalize BitVec.ofNat 32 (E * 8388608) = w at a b c ⊢
  unfold Ideal.ieee
  simp only [a, b, c]
  rw [if_neg (by omega), if_neg (by omega)]
  norm_num
  rw [← EReal.coe_mul]
  congr 1
  rw [zpow_sub₀ (by norm_num : (2 : ℝ) ≠ 0) ((E : ℤ) - 127) 23]
  rw [mul_div_assoc']
  rw [div_eq_iff (by norm_num)]
  norm_num [mul_comm]

theorem pow2_ofInt (e : ℤ) (h1 : -126 ≤ e) (h2 : e ≤ 127) : pow2 (BitVec.ofInt 32 e) = (((2 : ℝ) ^ e : ℝ) : EReal) := by
  have : IntOp.shli .vector (IntOp.addi (BitVec.ofInt 32 e) 127#32) 23#32 = BitVec.ofNat 32 ((e + 127).toNat * 8388608) := by
    unfold IntOp.shli IntOp.addi
    rw [if_pos (by decide)]
    have : BitVec.ofInt 32 e + 127#32 = BitVec.ofNat 32 (e + 127).toNat := by
      apply BitVec.eq_of_toNat_eq
      simp [BitVec.toNat_add, BitVec.toNat_ofInt, BitVec.toNat_ofNat]; omega
    rw [this]
    apply BitVec.eq_of_toNat_eq
    simp [BitVec.toNat_ofNat, Nat.shiftLeft_eq]
  unfold pow2
  rw [this]
  show Ideal.ieee 8 23 _ = _
  rw [ieee_pow _ (by omega) (by omega)]
  congr 2
  omega

/-- One step of the search for the exponent: `k` more where the value reaches it. -/
def step (v : EReal) (e k : BitVec 32) : BitVec 32 :=
  Scalar.select (Ideal.cmp .oge v (pow2 (IntOp.addi e k))) (IntOp.addi e k) e

/-- The word of a value with the exponent `e`: the exponent's bits and the fraction rounded up. -/
def word (v : EReal) (e : BitVec 32) : BitVec 32 :=
  IntOp.addi (IntOp.shli .vector (IntOp.addi e 127#32) 23#32)
    (Ideal.fptosi 32 (Ideal.liftRound Int.ceil
      ((v * pow2 (IntOp.subi 0#32 e) - Ideal.ofBits .f32 0x3F800000#32) * Ideal.ofBits .f32 0x4B000000#32)))

/-- The byte of the code of a magnitude `m` (times 2⁻⁷) with the negated random byte `rn`. -/
def code (m rn : EReal) : BitVec 8 :=
  let u := min (m + max m (Ideal.ofBits .f32 0x3C000000#32)) (Ideal.ofBits .f32 0x3E000000#32)
  let w := IntOp.addi (word u (step u (step u 4294967289#32 2#32) 1#32)) (word (rn + Ideal.ofBits .f32 0x443FDFFF#32) 9#32)
  (IntOp.minsi ((IntOp.shrui .vector w 22#32).setWidth 16) 519#16).setWidth 8

theorem lit_one : Ideal.ofBits .f32 0x3F800000#32 = ((1 : ℝ) : EReal) := by simp
theorem ofBits_f32 (b : BitVec 32) : Ideal.ofBits .f32 b = Ideal.ieee 8 23 b := rfl
theorem lit_23 : Ideal.ofBits .f32 0x4B000000#32 = ((8388608 : ℝ) : EReal) := by
  rw [ofBits_f32, show (0x4B000000#32) = BitVec.ofNat 32 (150 * 8388608) by rfl, ieee_pow _ (by norm_num) (by norm_num)]; norm_num
theorem lit_unit : Ideal.ofBits .f32 0x3C000000#32 = ((1 / 128 : ℝ) : EReal) := by
  rw [ofBits_f32, show (0x3C000000#32) = BitVec.ofNat 32 (120 * 8388608) by rfl, ieee_pow _ (by norm_num) (by norm_num)]; norm_num
theorem lit_eighth : Ideal.ofBits .f32 0x3E000000#32 = ((1 / 8 : ℝ) : EReal) := by
  rw [ofBits_f32, show (0x3E000000#32) = BitVec.ofNat 32 (124 * 8388608) by rfl, ieee_pow _ (by norm_num) (by norm_num)]; norm_num
theorem lit_roff : Ideal.ofBits .f32 0x443FDFFF#32 = ((767.5 - 1 / 16384 : ℝ) : EReal) := by
  rw [ofBits_f32]; unfold Ideal.ieee
  have a : ((0x443FDFFF#32).extractLsb' 23 8).toNat = 136 := by decide
  have b : ((0x443FDFFF#32).extractLsb' 0 23).toNat = 4186111 := by decide
  have c : ((0x443FDFFF#32).extractLsb' (8 + 23) 1 == 1#1) = false := by decide
  simp only [a, b, c]
  norm_num

theorem oge_coe (a b : ℝ) : Ideal.cmp .oge (a : EReal) (b : EReal) = BitVec.ofBool (decide (b ≤ a)) := by
  simp [Ideal.cmp]

theorem fptosi_nat (k : ℕ) (h : k < 2 ^ 31) : Ideal.fptosi 32 (((k : ℤ) : ℝ) : EReal) = BitVec.ofNat 32 k := by
  unfold Ideal.fptosi
  show BitVec.ofInt 32 (max _ (min _ (if (0 : ℝ) ≤ ((k : ℤ) : ℝ) then ⌊(((k : ℤ) : ℝ))⌋ else _))) = _
  rw [if_pos (by positivity), Int.floor_intCast]
  rw [min_eq_right (by norm_num; omega), max_eq_right (by norm_num)]
  exact BitVec.ofInt_natCast 32 k

/-- The word of `2ᵉ(1 + f)`. -/
theorem word_eq (e : ℤ) (f : ℝ) (h0 : 0 ≤ f) (h1 : f ≤ 1) (he : -126 ≤ e) (he' : e ≤ 126) :
    word (((2 : ℝ) ^ e * (1 + f) : ℝ) : EReal) (BitVec.ofInt 32 e) =
      BitVec.ofNat 32 ((e + 127).toNat * 8388608 + ⌈f * 8388608⌉.toNat) := by
  have hs : IntOp.shli .vector (IntOp.addi (BitVec.ofInt 32 e) 127#32) 23#32 = BitVec.ofNat 32 ((e + 127).toNat * 8388608) := by
    unfold IntOp.shli IntOp.addi
    rw [if_pos (by decide)]
    have : BitVec.ofInt 32 e + 127#32 = BitVec.ofNat 32 (e + 127).toNat := by
      apply BitVec.eq_of_toNat_eq
      simp [BitVec.toNat_add, BitVec.toNat_ofInt, BitVec.toNat_ofNat]; omega
    rw [this]
    apply BitVec.eq_of_toNat_eq
    simp [BitVec.toNat_ofNat, Nat.shiftLeft_eq]
  have hn : IntOp.subi 0#32 (BitVec.ofInt 32 e) = BitVec.ofInt 32 (-e) := by
    unfold IntOp.subi
    rw [BitVec.ofInt_neg]; simp
  have hc : 0 ≤ ⌈f * 8388608⌉ := Int.ceil_nonneg (by positivity)
  have hc' : ⌈f * 8388608⌉ ≤ 8388608 := by
    rw [Int.ceil_le]; push_cast; nlinarith
  unfold word
  rw [hs, hn, pow2_ofInt _ (by omega) (by omega), lit_one, lit_23]
  have : (((2 : ℝ) ^ e * (1 + f) : ℝ) : EReal) * (((2 : ℝ) ^ (-e) : ℝ) : EReal) - ((1 : ℝ) : EReal) = (f : EReal) := by
    rw [← EReal.coe_mul, ← EReal.coe_sub]
    congr 1
    rw [mul_right_comm, ← zpow_add₀ (by norm_num : (2 : ℝ) ≠ 0)]; simp
  rw [this, ← EReal.coe_mul, Ideal.liftRound_coe]
  obtain ⟨k, hk⟩ := Int.eq_ofNat_of_zero_le hc
  rw [hk, fptosi_nat k (by omega)]
  unfold IntOp.addi
  rw [← BitVec.ofNat_add]
  simp

theorem word_round (r : ℕ) (hr : r < 256) :
    word (((-(r : ℝ) : ℝ) : EReal) + Ideal.ofBits .f32 0x443FDFFF#32) 9#32 =
      BitVec.ofNat 32 (136 * 8388608 + ((255 - r) * 16384 + 8191)) := by
  have h0 : (0 : ℝ) ≤ r := by positivity
  have hr' : (r : ℝ) ≤ 255 := by exact_mod_cast Nat.le_of_lt_succ hr
  have h : (((-(r : ℝ) : ℝ) : EReal) + Ideal.ofBits .f32 0x443FDFFF#32) =
      (((2 : ℝ) ^ (9 : ℤ) * (1 + (255.5 - r - 1 / 16384) / 512) : ℝ) : EReal) := by
    rw [lit_roff, ← EReal.coe_add]; congr 1; norm_num; ring
  rw [h, show (9#32) = BitVec.ofInt 32 9 by rfl, word_eq 9 _ (by apply div_nonneg <;> linarith) (by rw [div_le_one (by norm_num)]; linarith) (by norm_num) (by norm_num)]
  have : (255.5 - (r : ℝ) - 1 / 16384) / 512 * 8388608 = (((255 - (r : ℤ)) * 16384 + 8191 : ℤ) : ℝ) := by
    push_cast; ring
  rw [this, Int.ceil_intCast]
  congr 1
  norm_num
  omega

/-- The code's top half: what the sum of the two words leaves after the shift, the clamp and the narrowing. -/
theorem top (j k r : ℕ) (hj : j < 4) (hr : r < 256) (hk : k ≤ 8388608) (h7 : j = 3 → k ≤ 4194304) :
    (IntOp.minsi ((IntOp.shrui .vector (IntOp.addi (BitVec.ofNat 32 ((120 + j) * 8388608 + k))
      (BitVec.ofNat 32 (136 * 8388608 + ((255 - r) * 16384 + 8191)))) 22#32).setWidth 16) 519#16).setWidth 8 =
    BitVec.ofNat 8 (2 * j + (k + (255 - r) * 16384 + 8191) / 4194304) := by
  unfold IntOp.addi IntOp.shrui IntOp.minsi
  rw [if_pos (show (22#32).toNat < 32 by decide), ← BitVec.ofNat_add]
  have e : (BitVec.ofNat 32 ((120 + j) * 8388608 + k + (136 * 8388608 + ((255 - r) * 16384 + 8191))) >>> (22#32)).setWidth 16 =
      BitVec.ofNat 16 (512 + (2 * j + (k + (255 - r) * 16384 + 8191) / 4194304)) := by
    apply BitVec.eq_of_toNat_eq
    simp only [BitVec.toNat_setWidth, BitVec.ushiftRight_eq', BitVec.toNat_ushiftRight, BitVec.toNat_ofNat, Nat.shiftRight_eq_div_pow]
    norm_num
    omega
  rw [e]
  have h8 : 2 * j + (k + (255 - r) * 16384 + 8191) / 4194304 < 8 := by
    rcases Nat.lt_or_ge j 3 with h | h
    · omega
    · have := h7 (by omega)
      omega
  generalize 2 * j + (k + (255 - r) * 16384 + 8191) / 4194304 = n at h8
  interval_cases n <;> rfl

end Cert.Num
-- ==== Proof.Code.lean ====
/- The byte of a magnitude's code: which of the eight values it stands for, and what it reads as. -/
module

public import proofs.«01_k».proof.Proof.Num

@[expose] public section

set_option maxRecDepth 16384

noncomputable section

namespace Cert.Num

open Idealize.ShloMosaic

/-- The eight magnitudes. -/
def val : ℕ → ℝ
  | 0 => 0 | 1 => 1 / 2 | 2 => 1 | 3 => 3 / 2 | 4 => 2 | 5 => 3 | 6 => 4 | _ => 6

/-- The step between magnitudes at `y`. -/
def stepAt (y : ℝ) : ℝ := if y < 2 then 1 / 2 else if y < 4 then 1 else 2

/-- The magnitude `y` rounded down, or up when its place between the two neighbours is above the random number. -/
def quant (y : ℝ) (r : ℕ) : ℝ :=
  ⌊y / stepAt y⌋ * stepAt y + stepAt y * (if ((r : ℝ) + 1 / 2) * (1 / 256) < (y - ⌊y / stepAt y⌋ * stepAt y) / stepAt y then 1 else 0)

theorem carry (f : ℝ) (r : ℕ) (h0 : 0 ≤ f) (h1 : f < 1) (hr : r < 256) :
    (⌈f * 8388608⌉.toNat + (255 - r) * 16384 + 8191) / 4194304 =
      ⌊2 * f⌋.toNat + (if ((r : ℝ) + 1 / 2) * (1 / 256) < 2 * f - ⌊2 * f⌋ then 1 else 0) := by
  obtain ⟨i, hi⟩ : ∃ i : ℕ, ⌊2 * f⌋ = (i : ℤ) := ⟨⌊2 * f⌋.toNat, (Int.toNat_of_nonneg (Int.floor_nonneg.2 (by linarith))).symm⟩
  have hf := Int.floor_le (2 * f)
  have hf' := Int.lt_floor_add_one (2 * f)
  rw [hi] at hf hf' ⊢
  have hi1 : i ≤ 1 := by
    have : (i : ℝ) < 2 := by push_cast at hf; linarith
    have : i < 2 := by exact_mod_cast this
    omega
  obtain ⟨k, hk⟩ : ∃ k : ℕ, ⌈(2 * f - i) * 4194304⌉ = (k : ℤ) :=
    ⟨_, (Int.toNat_of_nonneg (Int.ceil_nonneg (by push_cast at hf; nlinarith))).symm⟩
  have e : f * 8388608 = (2 * f - i) * 4194304 + ((i * 4194304 : ℤ) : ℝ) := by push_cast; ring
  rw [e, Int.ceil_add_intCast, hk]
  have hk1 : k ≤ 4194304 := by
    have : ⌈(2 * f - i) * 4194304⌉ ≤ (4194304 : ℤ) := Int.ceil_le.2 (by push_cast at hf' ⊢; linarith)
    omega
  have hiff : ((r : ℝ) + 1 / 2) * (1 / 256) < 2 * f - ((i : ℤ) : ℝ) ↔ r * 16384 + 8192 < k := by
    have : ((r * 16384 + 8192 : ℤ) < ⌈(2 * f - i) * 4194304⌉) ↔ (((r * 16384 + 8192 : ℤ) : ℝ) < (2 * f - i) * 4194304) := Int.lt_ceil
    rw [hk] at this
    constructor
    · intro h
      have := this.2 (by push_cast at h ⊢; linarith)
      omega
    · intro h
      have := this.1 (by omega)
      push_cast at this ⊢; linarith
  simp only [hiff]
  split <;> omega

theorem code_of (j : ℕ) (hj : j < 4) (f : ℝ) (r : ℕ) (h0 : 0 ≤ f) (h1 : f < 1) (h3 : j = 3 → f < 1 / 2) (hr : r < 256) (m : ℝ) (hm : 0 ≤ m)
    (hu : m + max m (1 / 128) = (2 : ℝ) ^ (-7 + j : ℤ) * (1 + f)) :
    code (m : EReal) (((-(r : ℝ)) : ℝ) : EReal) =
      BitVec.ofNat 8 (2 * j + (⌊2 * f⌋.toNat + (if ((r : ℝ) + 1 / 2) * (1 / 256) < 2 * f - ⌊2 * f⌋ then 1 else 0))) := by
  have hj' : j = 0 ∨ j = 1 ∨ j = 2 ∨ j = 3 := by omega
  have hp : (2 : ℝ) ^ (-7 + j : ℤ) * (1 + f) ≤ 1 / 8 := by
    rcases hj' with rfl | rfl | rfl | rfl <;> norm_num <;> first | linarith | (have := h3 rfl; linarith)
  have hmin : min ((m : EReal) + max (m : EReal) (Ideal.ofBits .f32 0x3C000000#32)) (Ideal.ofBits .f32 0x3E000000#32) =
      (((2 : ℝ) ^ (-7 + j : ℤ) * (1 + f) : ℝ) : EReal) := by
    rw [lit_unit, lit_eighth, ← EReal.coe_strictMono.monotone.map_max, ← EReal.coe_add, hu, ← EReal.coe_strictMono.monotone.map_min,
      min_eq_left hp]
  have hstep : step (((2 : ℝ) ^ (-7 + j : ℤ) * (1 + f) : ℝ) : EReal) (step (((2 : ℝ) ^ (-7 + j : ℤ) * (1 + f) : ℝ) : EReal) 4294967289#32 2#32) 1#32 =
      BitVec.ofInt 32 (-7 + j) := by
    have s (e k : ℤ) (he : -126 ≤ e + k) (he' : e + k ≤ 127) : step (((2 : ℝ) ^ (-7 + j : ℤ) * (1 + f) : ℝ) : EReal) (BitVec.ofInt 32 e) (BitVec.ofInt 32 k) =
        if (2 : ℝ) ^ (e + k) ≤ (2 : ℝ) ^ (-7 + j : ℤ) * (1 + f) then BitVec.ofInt 32 (e + k) else BitVec.ofInt 32 e := by
      unfold step IntOp.addi
      rw [← BitVec.ofInt_add, pow2_ofInt _ he he', oge_coe]
      by_cases h : (2 : ℝ) ^ (e + k) ≤ (2 : ℝ) ^ (-7 + j : ℤ) * (1 + f)
      · rw [if_pos h, decide_eq_true h]; rfl
      · rw [if_neg h, decide_eq_false h]; rfl
    rw [show 4294967289#32 = BitVec.ofInt 32 (-7) from rfl, show 2#32 = BitVec.ofInt 32 2 from rfl, show 1#32 = BitVec.ofInt 32 1 from rfl, s _ _ (by norm_num) (by norm_num)]
    rcases hj' with rfl | rfl | rfl | rfl
    · rw [if_neg (by norm_num; linarith), s _ _ (by norm_num) (by norm_num), if_neg (by norm_num; linarith)]; rfl
    · rw [if_neg (by norm_num; linarith), s _ _ (by norm_num) (by norm_num), if_pos (by norm_num; linarith)]; rfl
    · rw [if_pos (by norm_num; linarith), s _ _ (by norm_num) (by norm_num), if_neg (by norm_num; linarith)]; rfl
    · rw [if_pos (by norm_num; linarith), s _ _ (by norm_num) (by norm_num), if_pos (by norm_num; linarith)]; rfl
  unfold code
  simp only [hmin, hstep]
  have hc : ⌈f * 8388608⌉.toNat ≤ 8388608 := by
    have : ⌈f * 8388608⌉ ≤ (8388608 : ℤ) := Int.ceil_le.2 (by push_cast; linarith)
    omega
  rw [word_eq _ f h0 h1.le (by omega) (by omega), word_round r hr,
    show ((-7 + (j : ℤ)) + 127).toNat = 120 + j by omega, top j _ r hj hr hc ?_, carry f r h0 h1 hr]
  intro h
  have h := h3 h
  have : ⌈f * 8388608⌉ ≤ (4194304 : ℤ) := Int.ceil_le.2 (by push_cast; linarith)
  omega

/-- The code of `y / 128` is that of the rounded magnitude. -/
theorem code_eq (y : ℝ) (r : ℕ) (h0 : 0 ≤ y) (h6 : y < 6) (hr : r < 256) :
    ∃ c : ℕ, c < 8 ∧ code ((y / 128 : ℝ) : EReal) (((-(r : ℝ)) : ℝ) : EReal) = BitVec.ofNat 8 c ∧ val c = quant y r := by
  have fin (f : ℝ) (h0 : 0 ≤ f) (h1 : f < 1) : ⌊2 * f⌋ = 0 ∨ ⌊2 * f⌋ = 1 := by
    have a : 0 ≤ ⌊2 * f⌋ := Int.floor_nonneg.2 (by linarith)
    have b : ⌊2 * f⌋ < 2 := Int.floor_lt.2 (by push_cast; linarith)
    omega
  have key (j : ℕ) (hj : j < 4) (f : ℝ) (h0 : 0 ≤ f) (h1 : f < 1) (h3 : j = 3 → f < 1 / 2)
      (hu : y / 128 + max (y / 128) (1 / 128) = (2 : ℝ) ^ (-7 + j : ℤ) * (1 + f)) (d : ℤ) (hd : y / stepAt y = 2 * f + d) (hs : 0 < stepAt y)
      (hv : ∀ i : ℕ, i ≤ 2 → (j = 3 → i ≤ 1) → val (2 * j + i) = (i + d) * stepAt y) :
      ∃ c : ℕ, c < 8 ∧ code ((y / 128 : ℝ) : EReal) (((-(r : ℝ)) : ℝ) : EReal) = BitVec.ofNat 8 c ∧ val c = quant y r := by
    refine ⟨_, ?_, code_of j hj f r h0 h1 h3 hr (y / 128) (by positivity) hu, ?_⟩
    · rcases fin f h0 h1 with h | h <;> rw [h] <;> split <;> simp <;> first | omega | skip
      all_goals
        by_contra hh
        have h3 := h3 (by omega)
        have : ⌊2 * f⌋ = 0 := Int.floor_eq_iff.2 ⟨by push_cast; linarith, by push_cast; linarith⟩
        omega
    · have hy : (y - ⌊y / stepAt y⌋ * stepAt y) / stepAt y = 2 * f - ⌊2 * f⌋ := by
        rw [sub_div, hd, mul_div_assoc, div_self hs.ne', Int.floor_add_intCast]; push_cast; ring
      unfold quant
      rw [hy, hd, Int.floor_add_intCast]
      have h3' : j = 3 → ⌊2 * f⌋ = 0 := fun h => by
        have := h3 h
        exact Int.floor_eq_iff.2 ⟨by push_cast; linarith, by push_cast; linarith⟩
      rcases fin f h0 h1 with h | h <;> rw [h] at h3' ⊢ <;> split <;>
        rw [hv _ (by simp) (by intro hh; have := h3' hh; simp at this ⊢)] <;> push_cast <;> ring
  have st1 : y < 2 → stepAt y = 1 / 2 := fun h => if_pos h
  have st2 : 2 ≤ y → y < 4 → stepAt y = 1 := fun h h' => by unfold stepAt; rw [if_neg (not_lt.2 h), if_pos h']
  have st3 : 4 ≤ y → stepAt y = 2 := fun h => by unfold stepAt; rw [if_neg (by linarith), if_neg (not_lt.2 h)]
  by_cases c1 : y < 1
  · have s := st1 (by linarith)
    refine key 0 (by norm_num) y h0 c1 (by norm_num) ?_ 0 (by rw [s]; push_cast; ring) (by rw [s]; norm_num) ?_
    · rw [max_eq_right (by linarith)]; norm_num; ring
    · rw [s]; intro i hi _; interval_cases i <;> norm_num [val]
  by_cases c2 : y < 2
  · have s := st1 (by linarith)
    refine key 1 (by norm_num) (y - 1) (by linarith) (by linarith) (by norm_num) ?_ 2 (by rw [s]; push_cast; ring) (by rw [s]; norm_num) ?_
    · rw [max_eq_left (by linarith)]; norm_num; ring
    · rw [s]; intro i hi _; interval_cases i <;> norm_num [val]
  by_cases c4 : y < 4
  · have s := st2 (by linarith) (by linarith)
    refine key 2 (by norm_num) (y / 2 - 1) (by linarith) (by linarith) (by norm_num) ?_ 2 (by rw [s]; push_cast; ring) (by rw [s]; norm_num) ?_
    · rw [max_eq_left (by linarith)]; norm_num; ring
    · rw [s]; intro i hi _; interval_cases i <;> norm_num [val]
  · have s := st3 (by linarith)
    refine key 3 (by norm_num) (y / 4 - 1) (by linarith) (by linarith) (by intro _; linarith) ?_ 2 (by rw [s]; push_cast; ring) (by rw [s]; norm_num) ?_
    · rw [max_eq_left (by linarith)]; norm_num; ring
    · rw [s]; intro i _ hi; have := hi rfl; interval_cases i <;> norm_num [val]

/-- A code's byte, shifted by two bits and with a sign bit on top, read as a float of eight bits. -/
theorem byte_val (c : ℕ) (hc : c < 8) (s : Bool) :
    Ideal.ofBits .fp8e4m3 (BitVec.ofNat 8 (4 * c + (if s then 128 else 0))) = (((if s then -val c else val c) / 64 : ℝ) : EReal) := by
  show Ideal.e4m3fn _ = _
  have four : ((4 : EReal) = ((4 : ℝ) : EReal)) ∧ ((8 : EReal) = ((8 : ℝ) : EReal)) ∧ ((12 : EReal) = ((12 : ℝ) : EReal)) := ⟨rfl, rfl, rfl⟩
  interval_cases c <;> cases s <;> simp [Ideal.e4m3fn, val] <;> norm_num <;>
    (simp only [four, ← EReal.coe_mul]; norm_num)

end Cert.Num
-- ==== Proof.Scale.lean ====
/- One entry's scaling, rounding and decoding, over the extended reals. -/
module

public import proofs.«01_k».proof.Proof.Code

@[expose] public section

set_option maxRecDepth 16384

noncomputable section

namespace Cert.Num

open Idealize.ShloMosaic

/-- The Hadamard factor 1/√32 and one sixth, as single-precision numbers. -/
def cH : ℝ := 11863283 / 67108864
def c6 : ℝ := 11184811 / 67108864

theorem lit_cH : Ideal.ofBits .f32 0x3E3504F3#32 = (cH : EReal) := by
  rw [ofBits_f32]; unfold Ideal.ieee
  have a : ((0x3E3504F3#32).extractLsb' 23 8).toNat = 124 := by decide
  have b : ((0x3E3504F3#32).extractLsb' 0 23).toNat = 3474675 := by decide
  have c : ((0x3E3504F3#32).extractLsb' (8 + 23) 1 == 1#1) = false := by decide
  simp only [a, b, c, cH]
  norm_num
theorem lit_c6 : Ideal.ofBits .f32 0x3E2AAAAB#32 = (c6 : EReal) := by
  rw [ofBits_f32]; unfold Ideal.ieee
  have a : ((0x3E2AAAAB#32).extractLsb' 23 8).toNat = 124 := by decide
  have b : ((0x3E2AAAAB#32).extractLsb' 0 23).toNat = 2796203 := by decide
  have c : ((0x3E2AAAAB#32).extractLsb' (8 + 23) 1 == 1#1) = false := by decide
  simp only [a, b, c, c6]
  norm_num
theorem lit_cU : Ideal.ofBits .f32 0x3AB504F3#32 = ((cH / 128 : ℝ) : EReal) := by
  rw [ofBits_f32]; unfold Ideal.ieee
  have a : ((0x3AB504F3#32).extractLsb' 23 8).toNat = 117 := by decide
  have b : ((0x3AB504F3#32).extractLsb' 0 23).toNat = 3474675 := by decide
  have c : ((0x3AB504F3#32).extractLsb' (8 + 23) 1 == 1#1) = false := by decide
  simp only [a, b, c, cH]
  norm_num
theorem lit_64 : Ideal.ofBits .f32 0x42800000#32 = ((64 : ℝ) : EReal) := by
  rw [ofBits_f32, show (0x42800000#32) = BitVec.ofNat 32 (133 * 8388608) by rfl, ieee_pow _ (by norm_num) (by norm_num)]; norm_num

theorem cH_pos : 0 < cH := by unfold cH; norm_num
theorem c6_pos : 0 < c6 := by unfold c6; norm_num
theorem c6_gt : 1 / 6 < c6 := by unfold c6; norm_num

/-- The scale of a block whose largest magnitude is `D`, times the common power of two. -/
def SG (D : EReal) (e : BitVec 32) : EReal :=
  (if D = 0 then 1 else D * Ideal.ofBits .f32 0x3E3504F3#32 * Ideal.ofBits .f32 0x3E2AAAAB#32 * pow2 (IntOp.subi 0#32 e)) * pow2 e

/-- An entry rounded and decoded: `x` rotated but not yet scaled by the Hadamard factor, in a block whose largest magnitude is `D`. -/
def dq (x D : EReal) (r : ℕ) : EReal :=
  if D = 0 ∨ D = ⊤ then 0
  else (((if x < 0 then -quant (|x.toReal| / D.toReal / c6) r else quant (|x.toReal| / D.toReal / c6) r) * (D.toReal * cH * c6) : ℝ) : EReal)

theorem pow2_neg (E : ℤ) (h : -126 ≤ E) (h' : E ≤ 126) : pow2 (IntOp.subi 0#32 (BitVec.ofInt 32 E)) = (((2 : ℝ) ^ (-E) : ℝ) : EReal) := by
  have hn : IntOp.subi 0#32 (BitVec.ofInt 32 E) = BitVec.ofInt 32 (-E) := by
    unfold IntOp.subi
    rw [BitVec.ofInt_neg]; simp
  rw [hn, pow2_ofInt _ (by omega) (by omega)]

theorem SG_zero (E : ℤ) (h : -126 ≤ E) (h' : E ≤ 126) : SG 0 (BitVec.ofInt 32 E) = (((2 : ℝ) ^ E : ℝ) : EReal) := by
  unfold SG
  rw [if_pos rfl, pow2_ofInt _ h (by omega), one_mul]

theorem SG_coe (d : ℝ) (hd : d ≠ 0) (E : ℤ) (h : -126 ≤ E) (h' : E ≤ 126) : SG d (BitVec.ofInt 32 E) = ((d * cH * c6 : ℝ) : EReal) := by
  unfold SG
  rw [if_neg (by exact_mod_cast hd), pow2_ofInt _ h (by omega), pow2_neg E h h', lit_cH, lit_c6]
  norm_cast
  rw [mul_assoc _ ((2 : ℝ) ^ (-E)), ← zpow_add₀ (by norm_num : (2 : ℝ) ≠ 0)]
  simp

theorem SG_top (E : ℤ) (h : -126 ≤ E) (h' : E ≤ 126) : SG ⊤ (BitVec.ofInt 32 E) = ⊤ := by
  unfold SG
  rw [if_neg (by simp), pow2_ofInt _ h (by omega), pow2_neg E h h', lit_cH, lit_c6,
    EReal.top_mul_coe_of_pos cH_pos, EReal.top_mul_coe_of_pos c6_pos, EReal.top_mul_coe_of_pos (by positivity), EReal.top_mul_coe_of_pos (by positivity)]

theorem quant_zero (r : ℕ) : quant 0 r = 0 := by
  have h : stepAt 0 = 1 / 2 := if_pos (by norm_num)
  unfold quant
  rw [h, if_neg (by norm_num; positivity)]
  norm_num

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The larger of a number and its opposite, bounded: the number is real. -/
theorem real_of_abs (x : EReal) (d : ℝ) (h : max x (-x) ≤ d) : ∃ a : ℝ, x = a ∧ |a| ≤ d := by
  induction x with
  | bot => simp at h
  | top => simp at h
  | coe a =>
    refine ⟨a, rfl, ?_⟩
    rw [← EReal.coe_neg, ← EReal.coe_strictMono.monotone.map_max, EReal.coe_le_coe_iff] at h
    exact h

theorem abs_coe (a : ℝ) : max (a : EReal) (-(a : EReal)) = ((|a| : ℝ) : EReal) := by
  rw [← EReal.coe_neg, ← EReal.coe_strictMono.monotone.map_max]; rfl

/-- What the kernel's code, byte and scale make of an entry. -/
theorem kernel_entry (x D : EReal) (r : ℕ) (hr : r < 256) (hx : max x (-x) ≤ D) (E : ℤ) (h : -126 ≤ E) (h' : E ≤ 126) :
    ∃ c : ℕ, c < 8 ∧ code (max x (-x) * Ideal.div (Ideal.ofBits .f32 0x3AB504F3#32) (SG D (BitVec.ofInt 32 E))) (((-(r : ℝ)) : ℝ) : EReal) = BitVec.ofNat 8 c ∧
      Ideal.ofBits .fp8e4m3 (BitVec.ofNat 8 (4 * c + (if decide (x < 0) then 128 else 0))) * (SG D (BitVec.ofInt 32 E) * Ideal.ofBits .f32 0x42800000#32) = dq x D r := by
  have zero : max x (-x) * Ideal.div (Ideal.ofBits .f32 0x3AB504F3#32) (SG D (BitVec.ofInt 32 E)) = ((0 / 128 : ℝ) : EReal) → (D = 0 ∨ D = ⊤) →
      ∃ c : ℕ, c < 8 ∧ code (max x (-x) * Ideal.div (Ideal.ofBits .f32 0x3AB504F3#32) (SG D (BitVec.ofInt 32 E))) (((-(r : ℝ)) : ℝ) : EReal) = BitVec.ofNat 8 c ∧
      Ideal.ofBits .fp8e4m3 (BitVec.ofNat 8 (4 * c + (if decide (x < 0) then 128 else 0))) * (SG D (BitVec.ofInt 32 E) * Ideal.ofBits .f32 0x42800000#32) = dq x D r := by
    intro hz hD
    rw [hz]
    obtain ⟨c, hc, e, v⟩ := code_eq 0 r le_rfl (by norm_num) hr
    refine ⟨c, hc, e, ?_⟩
    rw [byte_val c hc, v, quant_zero]
    unfold dq
    rw [if_pos hD]
    simp
  have nonneg : 0 ≤ max x (-x) := by
    induction x with
    | bot => simp
    | top => simp
    | coe a => rw [abs_coe]; exact_mod_cast abs_nonneg a
  induction D with
  | bot => exact absurd (nonneg.trans hx) (by simp)
  | top =>
    refine zero ?_ (.inr rfl)
    rw [SG_top E h h']
    unfold Ideal.div
    simp
  | coe d =>
    obtain ⟨a, rfl, ha⟩ := real_of_abs x d hx
    rcases eq_or_ne d 0 with rfl | hd
    · refine zero ?_ (.inl rfl)
      have : a = 0 := abs_eq_zero.1 (le_antisymm ha (abs_nonneg a))
      rw [abs_coe, this]
      simp
    · have hd0 : 0 < d := lt_of_le_of_ne ((abs_nonneg a).trans ha) hd.symm
      have hm : max (a : EReal) (-(a : EReal)) * Ideal.div (Ideal.ofBits .f32 0x3AB504F3#32) (SG d (BitVec.ofInt 32 E)) =
          ((|a| / d / c6 / 128 : ℝ) : EReal) := by
        rw [abs_coe, SG_coe d hd E h h', lit_cU, div_coe _ _ (by have := cH_pos; have := c6_pos; positivity), ← EReal.coe_mul]
        have := cH_pos.ne'
        have := c6_pos.ne'
        congr 1
        field_simp
      rw [hm]
      have hy : |a| / d / c6 < 6 := by
        rw [div_lt_iff₀ c6_pos, div_lt_iff₀ hd0]
        have := c6_gt
        nlinarith
      obtain ⟨c, hc, e, v⟩ := code_eq (|a| / d / c6) r (div_nonneg (div_nonneg (abs_nonneg _) hd0.le) c6_pos.le) hy hr
      refine ⟨c, hc, e, ?_⟩
      rw [byte_val c hc, v, SG_coe d hd E h h', lit_64, ← EReal.coe_mul, ← EReal.coe_mul]
      unfold dq
      rw [if_neg (show ¬((d : EReal) = 0 ∨ (d : EReal) = ⊤) by simp [hd])]
      simp only [EReal.toReal_coe]
      congr 1
      by_cases hs : (a : EReal) < 0
      · simp only [hs, decide_true, if_true]; ring
      · simp only [hs, decide_false, Bool.false_eq_true, if_false]; ring

end Cert.Num
-- ==== Proof.RefScale.lean ====
/- One entry's scaling and rounding as the reference writes it, over the extended reals. -/
module

public import proofs.«01_k».proof.Proof.Scale

@[expose] public section

set_option maxRecDepth 16384

noncomputable section

namespace Cert.Num

open Idealize.ShloMosaic

theorem lit_two : Ideal.ofBits .f32 0x40000000#32 = ((2 : ℝ) : EReal) := by
  rw [ofBits_f32, show (0x40000000#32) = BitVec.ofNat 32 (128 * 8388608) by rfl, ieee_pow _ (by norm_num) (by norm_num)]; norm_num
theorem lit_four : Ideal.ofBits .f32 0x40800000#32 = ((4 : ℝ) : EReal) := by
  rw [ofBits_f32, show (0x40800000#32) = BitVec.ofNat 32 (129 * 8388608) by rfl, ieee_pow _ (by norm_num) (by norm_num)]; norm_num
theorem lit_half : Ideal.ofBits .f32 0x3F000000#32 = ((1 / 2 : ℝ) : EReal) := by
  rw [ofBits_f32, show (0x3F000000#32) = BitVec.ofNat 32 (126 * 8388608) by rfl, ieee_pow _ (by norm_num) (by norm_num)]; norm_num
theorem lit_256 : Ideal.ofBits .f32 0x3B800000#32 = ((1 / 256 : ℝ) : EReal) := by
  rw [ofBits_f32, show (0x3B800000#32) = BitVec.ofNat 32 (119 * 8388608) by rfl, ieee_pow _ (by norm_num) (by norm_num)]; norm_num
theorem lit_six : Ideal.ofBits .f32 0x40C00000#32 = ((6 : ℝ) : EReal) := by
  rw [ofBits_f32]; unfold Ideal.ieee
  have a : ((0x40C00000#32).extractLsb' 23 8).toNat = 129 := by decide
  have b : ((0x40C00000#32).extractLsb' 0 23).toNat = 4194304 := by decide
  have c : ((0x40C00000#32).extractLsb' (8 + 23) 1 == 1#1) = false := by decide
  simp only [a, b, c]
  norm_num
theorem lit_nsix : Ideal.ofBits .f32 0xC0C00000#32 = ((-6 : ℝ) : EReal) := by
  rw [ofBits_f32]; unfold Ideal.ieee
  have a : ((0xC0C00000#32).extractLsb' 23 8).toNat = 129 := by decide
  have b : ((0xC0C00000#32).extractLsb' 0 23).toNat = 4194304 := by decide
  have c : ((0xC0C00000#32).extractLsb' (8 + 23) 1 == 1#1) = true := by decide
  simp only [a, b, c]
  norm_num

/-- The step at a magnitude. -/
def rstep (m : EReal) : EReal :=
  if m < Ideal.ofBits .f32 0x40000000#32 then Ideal.ofBits .f32 0x3F000000#32 else if m < Ideal.ofBits .f32 0x40800000#32 then 1 else Ideal.ofBits .f32 0x40000000#32

/-- The code value below a magnitude. -/
def rlo (m : EReal) : EReal := Ideal.liftRound Int.floor (Ideal.div m (rstep m)) * rstep m

/-- The magnitude rounded. -/
def rq (m r : EReal) : EReal :=
  rlo m + rstep m * FloatOps.uitofp (F := Ideal) .f32 (BitVec.ofBool (decide ((r + Ideal.ofBits .f32 0x3F000000#32) * Ideal.ofBits .f32 0x3B800000#32 < Ideal.div (m - rlo m) (rstep m))))

/-- A block's scale. -/
def rs (a g : EReal) : EReal := if a = 0 then 1 else Ideal.div (a * Ideal.ofBits .f32 0x3E2AAAAB#32) g

/-- An entry over its scale, clipped. -/
def ry (v a g : EReal) : EReal := min (Ideal.ofBits .f32 0x40C00000#32) (max (Ideal.ofBits .f32 0xC0C00000#32) (Ideal.div v (rs a g * g)))

/-- An entry quantised and decoded. -/
def rw_ (v a g r : EReal) : EReal :=
  (if ry v a g < 0 then -rq (max (ry v a g) (-ry v a g)) r else rq (max (ry v a g) (-ry v a g)) r) * (rs a g * g)

theorem rstep_coe (y : ℝ) : rstep y = ((stepAt y : ℝ) : EReal) := by
  unfold rstep stepAt
  rw [lit_two, lit_four, lit_half]
  simp only [EReal.coe_lt_coe_iff]
  split_ifs <;> rfl

theorem stepAt_pos (y : ℝ) : 0 < stepAt y := by
  unfold stepAt
  split_ifs <;> norm_num

theorem rlo_coe (y : ℝ) : rlo y = ((⌊y / stepAt y⌋ * stepAt y : ℝ) : EReal) := by
  unfold rlo
  rw [rstep_coe, div_coe _ _ (stepAt_pos y).ne', Ideal.liftRound_coe, ← EReal.coe_mul]

theorem rq_coe (y : ℝ) (r : ℕ) : rq y ((r : ℝ) : EReal) = ((quant y r : ℝ) : EReal) := by
  unfold rq quant
  rw [rlo_coe, rstep_coe, lit_half, lit_256, ← EReal.coe_sub, div_coe _ _ (stepAt_pos y).ne', ← EReal.coe_add, ← EReal.coe_mul]
  simp only [EReal.coe_lt_coe_iff]
  split_ifs with h
  · have : FloatOps.uitofp (F := Ideal) .f32 (BitVec.ofBool (decide True)) = ((1 : ℝ) : EReal) := by
      show (((BitVec.ofBool (decide True)).toNat : ℝ) : EReal) = _
      simp
    simp only [h, this]
    rw [← EReal.coe_mul, ← EReal.coe_add]
  · have : FloatOps.uitofp (F := Ideal) .f32 (BitVec.ofBool (decide False)) = ((0 : ℝ) : EReal) := by
      show (((BitVec.ofBool (decide False)).toNat : ℝ) : EReal) = _
      simp
    simp only [h, this]
    rw [← EReal.coe_mul, ← EReal.coe_add]

/-- The reference's entry is `dq`. -/
theorem ref_entry (x D : EReal) (r : ℕ) (g : ℝ) (hg : 0 < g) (hx : max x (-x) ≤ D) :
    rw_ (Ideal.ofBits .f32 0x3E3504F3#32 * x) (Ideal.ofBits .f32 0x3E3504F3#32 * D) g ((r : ℝ) : EReal) = dq x D r := by
  have zero : ∀ v a : EReal, ry v a g = ((0 : ℝ) : EReal) → (D = 0 ∨ D = ⊤) → rw_ v a g ((r : ℝ) : EReal) = dq x D r := by
    intro v a hy hD
    unfold rw_ dq
    rw [hy, if_pos hD, abs_coe, abs_zero, rq_coe, quant_zero]
    simp
  have hc := cH_pos
  have h6 := c6_pos
  have nonneg : 0 ≤ max x (-x) := by
    induction x with
    | bot => simp
    | top => simp
    | coe a => rw [abs_coe]; exact_mod_cast abs_nonneg a
  have clip : ∀ a : ℝ, -6 ≤ a → a ≤ 6 → min (Ideal.ofBits .f32 0x40C00000#32) (max (Ideal.ofBits .f32 0xC0C00000#32) (a : EReal)) = a := by
    intro a h1 h2
    rw [lit_six, lit_nsix, max_eq_right (by exact_mod_cast h1), min_eq_right (by exact_mod_cast h2)]
  rw [lit_cH]
  induction D with
  | bot => exact absurd (nonneg.trans hx) (by simp)
  | top =>
    refine zero _ _ ?_ (.inr rfl)
    have ht : rs ((cH : EReal) * ⊤) g * g = ⊤ := by
      unfold rs
      rw [EReal.coe_mul_top_of_pos hc, if_neg (by simp), lit_c6, EReal.top_mul_coe_of_pos h6]
      unfold Ideal.div
      rw [if_neg (by exact_mod_cast hg.ne'), ← EReal.coe_inv, EReal.top_mul_coe_of_pos (by positivity), EReal.top_mul_coe_of_pos hg]
    unfold ry
    rw [ht]
    have : Ideal.div ((cH : EReal) * x) ⊤ = ((0 : ℝ) : EReal) := by
      unfold Ideal.div
      simp
    rw [this, clip 0 (by norm_num) (by norm_num)]
  | coe d =>
    obtain ⟨a, rfl, ha⟩ := real_of_abs x d hx
    rcases eq_or_ne d 0 with rfl | hd
    · refine zero _ _ ?_ (.inl rfl)
      have : a = 0 := abs_eq_zero.1 (le_antisymm ha (abs_nonneg a))
      unfold ry rs
      rw [this]
      simp only [EReal.coe_zero, mul_zero, if_true, one_mul]
      rw [← EReal.coe_zero, div_coe _ _ hg.ne', zero_div, clip 0 (by norm_num) (by norm_num)]
    · have hd0 : 0 < d := lt_of_le_of_ne ((abs_nonneg a).trans ha) hd.symm
      have hs : rs ((cH : EReal) * d) g * g = ((d * cH * c6 : ℝ) : EReal) := by
        unfold rs
        rw [← EReal.coe_mul, if_neg (by exact_mod_cast (mul_pos hc hd0).ne'), lit_c6, ← EReal.coe_mul, div_coe _ _ hg.ne', ← EReal.coe_mul]
        congr 1
        field_simp
      have hy6 : |a / d / c6| ≤ 6 := by
        rw [abs_div, abs_div, abs_of_pos hd0, abs_of_pos h6, div_le_iff₀ h6, div_le_iff₀ hd0]
        have := c6_gt
        nlinarith
      have hy : ry ((cH : EReal) * a) ((cH : EReal) * d) g = ((a / d / c6 : ℝ) : EReal) := by
        unfold ry
        rw [hs, ← EReal.coe_mul, div_coe _ _ (by positivity)]
        have : cH * a / (d * cH * c6) = a / d / c6 := by field_simp
        rw [this, clip _ (abs_le.1 hy6).1 (abs_le.1 hy6).2]
      unfold rw_ dq
      rw [hy, hs, abs_coe, rq_coe, if_neg (show ¬((d : EReal) = 0 ∨ (d : EReal) = ⊤) by simp [hd])]
      have hq : |a / d / c6| = |a| / d / c6 := by rw [abs_div, abs_div, abs_of_pos hd0, abs_of_pos h6]
      simp only [EReal.toReal_coe, hq]
      have hn : ((a / d / c6 : ℝ) : EReal) < 0 ↔ (a : EReal) < 0 := by
        rw [← EReal.coe_zero, EReal.coe_lt_coe_iff, EReal.coe_lt_coe_iff, div_div, div_lt_iff₀ (by positivity), zero_mul]
      by_cases h : (a : EReal) < 0
      · rw [if_pos (hn.2 h), if_pos h, ← EReal.coe_neg, ← EReal.coe_mul]
      · rw [if_neg (fun z => h (hn.1 z)), if_neg h, ← EReal.coe_mul]

end Cert.Num
-- ==== Proof.Ref.lean ====
/- The reference's arrays, entry by entry. -/
module

public import proofs.«01_k».proof.Proof.Gen.ReferenceIdeal.Run
public import proofs.«01_k».proof.Proof.RefScale
public import proofs.«01_k».proof.Proof.Lit
public import Idealize.ShloMosaic.Lib.Pointwise
public import Idealize.ShloMosaic.Lib.Decide

@[expose] public section

set_option maxRecDepth 16384

noncomputable section

namespace Cert.Ref

open Cert.ReferenceIdeal Cert.ReferenceIdeal.Gen Cert.ReferenceIdeal.Value Idealize.ShloMosaic Idealize.SL.Sem

abbrev Val0 := Valuation τ sig (Elt Ideal)

/-- The reference's arrays, with their shapes. -/
def A51 (V0 : Val0) : S4096x688x16.Idx → EReal := res_main_v51 V0
def A57 (V0 : Val0) : S4096x688x1.Idx → EReal := res_main_v57 V0
def A64 (V0 : Val0) : S4096x688x1.Idx → EReal := res_main_v64 V0
def A69 (V0 : Val0) : S4096x688x16.Idx → EReal := res_main_v69 V0
def A70 (V0 : Val0) : S4096x688x16.Idx → EReal := res_main_v70 V0
def A76 (V0 : Val0) : S4096x688x16.Idx → EReal := res_main_v76 V0
def A79 (V0 : Val0) : S4096x688x16.Idx → EReal := res_main_v79 V0
def A89 (V0 : Val0) : S4096x688x16.Idx → EReal := res_main_v89 V0
def R1 (V0 : Val0) : S4096x11008.Idx → BitVec 8 := V0 (Proc.tc.devRef main_arg1)
def DY (V0 : Val0) : S11008x256.Idx → EReal := V0 (Proc.tc.devRef main_arg3)
def W (V0 : Val0) : S4096x11008.Idx → EReal := V0 (Proc.tc.devRef main_arg0)
def SG (V0 : Val0) : S11008.Idx → EReal := V0 (Proc.tc.devRef main_arg2)
def A50 (V0 : Val0) : S_.Idx → EReal := res_main_v50 V0
def g (V0 : Val0) : EReal := A50 V0 ix0
def rv (V0 : Val0) (k : Fin 4096) (j : Fin 688) (e : Fin 16) : EReal := A51 V0 (ix3 k j e)
def ra (V0 : Val0) (k : Fin 4096) (j : Fin 688) : EReal := A57 V0 (ix3 k j 0)

theorem eq_of (a b : EReal) (h : ∀ P : EReal → Prop, P b → P a) : a = b := h (· = b) rfl

theorem v64_read (V0 : Val0) (A : S4096x688x1.Idx → EReal) (B : S_.Idx → EReal) (hA : res_main_v57 V0 = A) (hB : res_main_v50 V0 = B)
    (y : S4096x688x1.Idx) (P : EReal → Prop) (hP : P (Num.rs (A y) (B ix0))) : P (A64 V0 y) := by
  unfold A64 res_main_v64
  rw [hA, hB]
  pointwise
  exact hP

theorem v69_read (V0 : Val0) (A : S4096x688x16.Idx → EReal) (B : S4096x688x1.Idx → EReal) (D : S_.Idx → EReal) (hA : res_main_v51 V0 = A)
    (hB : res_main_v64 V0 = B) (hD : res_main_v50 V0 = D) (k : Fin 4096) (j : Fin 688) (e : Fin 16) (P : EReal → Prop)
    (hP : P (min (Ideal.ofBits .f32 0x40C00000#32) (max (Ideal.ofBits .f32 0xC0C00000#32)
      (Ideal.div (A (ix3 k j e)) (B (ix3 k j 0) * D ix0))))) : P (A69 V0 (ix3 k j e)) := by
  unfold A69 res_main_v69
  rw [hA, hB, hD]
  pointwise
  exact hP

theorem v70_read (V0 : Val0) (A : S4096x688x16.Idx → EReal) (hA : res_main_v69 V0 = A) (y : S4096x688x16.Idx) (P : EReal → Prop)
    (hP : P (max (A y) (-A y))) : P (A70 V0 y) := by
  unfold A70 res_main_v70
  rw [hA]
  pointwise
  exact hP

theorem v76_read (V0 : Val0) (A : S4096x688x16.Idx → EReal) (hA : res_main_v70 V0 = A) (y : S4096x688x16.Idx) (P : EReal → Prop)
    (hP : P (Num.rstep (A y))) : P (A76 V0 y) := by
  unfold A76 res_main_v76
  rw [hA]
  pointwise
  exact hP

theorem v79_read (V0 : Val0) (A B : S4096x688x16.Idx → EReal) (hA : res_main_v70 V0 = A) (hB : res_main_v76 V0 = B) (y : S4096x688x16.Idx)
    (P : EReal → Prop) (hP : P (Ideal.liftRound Int.floor (Ideal.div (A y) (B y)) * B y)) : P (A79 V0 y) := by
  unfold A79 res_main_v79
  rw [hA, hB]
  pointwise
  exact hP

theorem v89_read (V0 : Val0) (A B D : S4096x688x16.Idx → EReal) (R : S4096x11008.Idx → BitVec 8) (hA : res_main_v70 V0 = A)
    (hB : res_main_v76 V0 = B) (hD : res_main_v79 V0 = D) (hR : V0 (Proc.tc.devRef main_arg1) = R) (k : Fin 4096) (j : Fin 688) (e : Fin 16)
    (P : EReal → Prop) (hP : P (D (ix3 k j e) + B (ix3 k j e) * FloatOps.uitofp (F := Ideal) .f32 (BitVec.ofBool (decide
      ((FloatOps.sitofp (F := Ideal) .f32 (BitVec.setWidth 32 (R (ix2 k ⟨j.val * 16 + e.val, by omega⟩))) + Ideal.ofBits .f32 0x3F000000#32)
        * Ideal.ofBits .f32 0x3B800000#32 < Ideal.div (A (ix3 k j e) - D (ix3 k j e)) (B (ix3 k j e))))))) : P (A89 V0 (ix3 k j e)) := by
  unfold A89 res_main_v89
  rw [hA, hB, hD, hR]
  pointwise
  exact hP

theorem v57_apply (V0 : Val0) (k : Fin 4096) (j : Fin 688) (t : EReal) : ra V0 k j ≤ t ↔ ∀ e, max (rv V0 k j e) (-rv V0 k j e) ≤ t := by
  unfold ra rv
  generalize hA : A51 V0 = A
  unfold A51 at hA
  unfold A57 res_main_v57
  rw [hA]
  pointwise
  refine (Finset.fold_max_le _).trans ?_
  have bot : Ideal.ofBits FTy.f32 4286578688#32 ≤ t := by
    have : Ideal.ofBits FTy.f32 4286578688#32 = ⊥ := by
      rw [Num.ofBits_f32]; unfold Ideal.ieee
      have a : ((4286578688#32).extractLsb' 23 8).toNat = 255 := by decide
      have b : ((4286578688#32).extractLsb' 0 23).toNat = 0 := by decide
      have c : ((4286578688#32).extractLsb' (8 + 23) 1 == 1#1) = true := by decide
      simp only [a, b, c]
      norm_num
    rw [this]; exact bot_le
  refine ⟨fun h e => h.2 (ix3 k j e) ?_, fun h => ⟨bot, fun x hx => ?_⟩⟩
  · rw [Finset.mem_filter]
    exact ⟨Finset.mem_univ _, by funext i; fin_cases i <;> rfl⟩
  · obtain ⟨a, b, e, rfl⟩ : ∃ (a : Fin 4096) (b : Fin 688) (e : Fin 16), x = ix3 a b e := ⟨x 0, x 1, x 2, by funext i; fin_cases i <;> rfl⟩
    rw [Finset.mem_filter] at hx
    have ha : a = k := congrFun hx.2 0
    have hb : b = j := congrFun hx.2 1
    rw [ha, hb]
    exact h e

/-- Whether an entry of the rotation is not negated. -/
def hadPos (i x : Fin 32) : BitVec 1 := BitVec.ofBool (!Lit.par x.val i.val)

theorem v51_read (V0 : Val0) (w : S4096x11008.Idx → EReal) (s : S11008.Idx → EReal) (hw : V0 (Proc.tc.devRef main_arg0) = w)
    (hs : V0 (Proc.tc.devRef main_arg2) = s) (k : Fin 4096) (j : Fin 688) (e : Fin 16) (P : EReal → Prop)
    (hP : P (∑ x : Fin 32, w (ix2 k ⟨j.val / 2 * 32 + x.val, by omega⟩) * s (ix1 ⟨j.val / 2 * 32 + x.val, by omega⟩)
      * (if Lit.par x.val (j.val % 2 * 16 + e.val) then Ideal.ofBits .f32 0xBE3504F3#32 else Ideal.ofBits .f32 0x3E3504F3#32))) : P (rv V0 k j e) := by
  unfold rv A51 res_main_v51
  rw [hw, hs]
  generalize hH : (select _ (broadcastInDim S32x32 _ _ _) (broadcastInDim S32x32 _ _ _)) = H
  have hv : ∀ i x : Fin 32, H (ix2 i x) = (if Lit.par x.val i.val then Ideal.ofBits .f32 0xBE3504F3#32 else Ideal.ofBits .f32 0x3E3504F3#32 : EReal) := by
    intro i x
    rw [← hH]
    unfold res_main_call0_v4 res_main_call0_v2 res_main_call0_v0 res_main_v5 res_main_v0
    pointwise
    refine (congrArg (Scalar.select · _ _) (?_ : _ = BitVec.ofBool (!Lit.par x.val i.val))).trans ?_
    · clear hP hH
      revert i x
      decide +kernel
    · cases Lit.par x.val i.val <;> rfl
  pointwise
  simp only [hv]
  exact hP

theorem top_word : Ideal.ofBits FTy.f32 2139095040#32 = ⊤ := by
  rw [Num.ofBits_f32]; unfold Ideal.ieee
  have a : ((2139095040#32).extractLsb' 23 8).toNat = 255 := by decide
  have b : ((2139095040#32).extractLsb' 0 23).toNat = 0 := by decide
  have c : ((2139095040#32).extractLsb' (8 + 23) 1 == 1#1) = false := by decide
  simp only [a, b, c]
  norm_num

theorem big_word : Ideal.ofBits FTy.f32 2122317824#32 = (((2 : ℝ) ^ (126 : ℤ) : ℝ) : EReal) := by
  rw [show (2122317824#32) = BitVec.ofNat 32 (253 * 8388608) from rfl, Num.ofBits_f32, Num.ieee_pow _ (by omega) (by omega)]
  norm_num

theorem v50_read (V0 : Val0) (A : S_.Idx → EReal) (B : S253.Idx → EReal) (hA : res_main_v43 V0 = A) (hB : res_main_cst V0 = B)
    (hpos : ∀ x, ∃ r : ℝ, 0 < r ∧ B x = r) : ∃ r : ℝ, 0 < r ∧ g V0 = r := by
  unfold g A50 res_main_v50
  rw [hA, hB]
  suffices h : ∀ z : EReal, 0 < z → z < ⊤ → ∃ r : ℝ, 0 < r ∧ z = r by
    apply h
    · pointwise
      split
      · exact lt_of_lt_of_eq (by exact_mod_cast (zero_lt_one : (0 : ℝ) < 1)) Num.lit_one.symm
      · refine (Finset.lt_fold_min _).2 ⟨by rw [top_word]; exact EReal.zero_lt_top, fun x _ => ?_⟩
        split
        · obtain ⟨r, hr, e⟩ := hpos x
          rw [e]; exact_mod_cast hr
        · rw [big_word]; exact_mod_cast (by positivity : (0 : ℝ) < 2 ^ (126 : ℤ))
    · pointwise
      split
      · exact lt_of_eq_of_lt Num.lit_one (EReal.coe_lt_top _)
      · refine (Finset.fold_min_lt _).2 (.inr ⟨ix1 ⟨0, by decide⟩, ?_, ?_⟩)
        · rw [Finset.mem_filter]
          exact ⟨Finset.mem_univ _, by funext i; exact i.elim0⟩
        · split
          · obtain ⟨r, hr, e⟩ := hpos (ix1 ⟨0, by decide⟩)
            exact lt_of_eq_of_lt e (EReal.coe_lt_top _)
          · rw [big_word]; exact EReal.coe_lt_top _
  intro z h0 h1
  lift z to ℝ using ⟨h1.ne, (lt_of_le_of_lt bot_le h0).ne'⟩
  exact ⟨z, by exact_mod_cast h0, rfl⟩

theorem cst_pos (V0 : Val0) (B : S253.Idx → EReal) (hB : res_main_cst V0 = B) (x : S253.Idx) : ∃ r : ℝ, 0 < r ∧ B x = r := by
  have h : ∀ i : Fin 253, Cert.ReferenceIdeal.lit0 i = BitVec.ofNat 32 ((i.val + 1) * 8388608) := by decide +kernel
  have hi : (S253.rowMajor x).val < 253 := (S253.rowMajor x).isLt
  have e : B x = Ideal.ofBits .f32 (Cert.ReferenceIdeal.lit0 ⟨(S253.rowMajor x).val, hi⟩) := congrFun hB.symm x
  rw [e, h, Num.ofBits_f32]
  rw [Num.ieee_pow _ (by omega) (by omega)]
  exact ⟨_, by positivity, rfl⟩

theorem g_pos (V0 : Val0) : ∃ r : ℝ, 0 < r ∧ g V0 = r :=
  v50_read V0 (res_main_v43 V0) (res_main_cst V0) rfl rfl (cst_pos V0 _ rfl)

/-- The first result. -/
def dx (V0 : Val0) : S256x4096.Idx → EReal := val3 V0 (Proc.devRef .tc main_v106)

theorem dx_read (V0 : Val0) (A B : S4096x688x16.Idx → EReal) (D : S4096x688x1.Idx → EReal) (E : S_.Idx → EReal) (dy : S11008x256.Idx → EReal)
    (hA : res_main_v69 V0 = A) (hB : res_main_v89 V0 = B) (hC : res_main_v64 V0 = D) (hE : res_main_v50 V0 = E)
    (hd : V0 (Proc.devRef .tc main_arg3) = dy) (t : Fin 256) (k : Fin 4096) (P : EReal → Prop)
    (hP : P (∑ x : Fin 11008, dy (ix2 ⟨x.val / 256 * 256 + x.val % 2 * 128 + x.val / 2 % 8 * 16 + x.val / 16 % 16, by omega⟩ t) *
        ((if A (ix3 k ⟨x.val / 16, by omega⟩ ⟨x.val % 16, by omega⟩) < 0 then -B (ix3 k ⟨x.val / 16, by omega⟩ ⟨x.val % 16, by omega⟩)
          else B (ix3 k ⟨x.val / 16, by omega⟩ ⟨x.val % 16, by omega⟩)) *
          (D (ix3 k ⟨x.val / 16, by omega⟩ 0) * E ix0)))) : P (dx V0 (ix2 t k)) := by
  unfold dx
  rw [show val3 V0 (Proc.devRef .tc main_v106) = _ from val3_main_v106 V0]
  rw [hA, hB, hC, hE, hd]
  pointwise
  exact hP

theorem byte (b : BitVec 8) : FloatOps.sitofp (F := Ideal) .f32 (BitVec.setWidth 32 b) = ((b.toNat : ℝ) : EReal) := by
  show (((BitVec.setWidth 32 b).toInt : ℝ) : EReal) = _
  have h : (BitVec.setWidth 32 b).toNat = b.toNat := by
    rw [BitVec.toNat_setWidth]; omega
  rw [BitVec.toInt_eq_toNat_of_lt (by rw [h]; omega), h]
  push_cast; rfl

/-- The decoded weight, one entry. -/
theorem wq_apply (V0 : Val0) (k : Fin 4096) (j : Fin 688) (e : Fin 16) :
    (if A69 V0 (ix3 k j e) < 0 then -A89 V0 (ix3 k j e) else A89 V0 (ix3 k j e)) * (A64 V0 (ix3 k j 0) * g V0)
      = Num.rw_ (rv V0 k j e) (ra V0 k j) (g V0) (((R1 V0 (ix2 k ⟨j.val * 16 + e.val, by omega⟩)).toNat : ℝ) : EReal) := by
  have h64 : A64 V0 (ix3 k j 0) = Num.rs (ra V0 k j) (g V0) := eq_of _ _ fun P hP => v64_read V0 (A57 V0) (A50 V0) rfl rfl _ P hP
  have h69 : A69 V0 (ix3 k j e) = Num.ry (rv V0 k j e) (ra V0 k j) (g V0) := by
    unfold Num.ry
    rw [← h64]
    exact eq_of _ _ fun P hP => v69_read V0 (A51 V0) (A64 V0) (A50 V0) rfl rfl rfl k j e P hP
  have h70 : A70 V0 (ix3 k j e) = max (A69 V0 (ix3 k j e)) (-A69 V0 (ix3 k j e)) := eq_of _ _ fun P hP => v70_read V0 (A69 V0) rfl _ P hP
  have h76 : A76 V0 (ix3 k j e) = Num.rstep (A70 V0 (ix3 k j e)) := eq_of _ _ fun P hP => v76_read V0 (A70 V0) rfl _ P hP
  have h79 : A79 V0 (ix3 k j e) = Num.rlo (A70 V0 (ix3 k j e)) := by
    unfold Num.rlo
    rw [← h76]
    exact eq_of _ _ fun P hP => v79_read V0 (A70 V0) (A76 V0) rfl rfl _ P hP
  have h89 : A89 V0 (ix3 k j e) = Num.rq (A70 V0 (ix3 k j e)) (((R1 V0 (ix2 k ⟨j.val * 16 + e.val, by omega⟩)).toNat : ℝ) : EReal) := by
    unfold Num.rq
    rw [← h79, ← h76, ← byte]
    exact eq_of _ _ fun P hP => v89_read V0 (A70 V0) (A76 V0) (A79 V0) (R1 V0) rfl rfl rfl rfl k j e P hP
  unfold Num.rw_
  rw [← h69, ← h70, ← h89, ← h64]

theorem dx_apply (V0 : Val0) (t : Fin 256) (k : Fin 4096) : dx V0 (ix2 t k) =
    ∑ x : Fin 11008, DY V0 (ix2 ⟨x.val / 256 * 256 + x.val % 2 * 128 + x.val / 2 % 8 * 16 + x.val / 16 % 16, by omega⟩ t) *
      Num.rw_ (rv V0 k ⟨x.val / 16, by omega⟩ ⟨x.val % 16, by omega⟩) (ra V0 k ⟨x.val / 16, by omega⟩) (g V0)
        (((R1 V0 (ix2 k x)).toNat : ℝ) : EReal) := by
  have e : dx V0 (ix2 t k) = ∑ x : Fin 11008, DY V0 (ix2 ⟨x.val / 256 * 256 + x.val % 2 * 128 + x.val / 2 % 8 * 16 + x.val / 16 % 16, by omega⟩ t) *
        ((if A69 V0 (ix3 k ⟨x.val / 16, by omega⟩ ⟨x.val % 16, by omega⟩) < 0 then -A89 V0 (ix3 k ⟨x.val / 16, by omega⟩ ⟨x.val % 16, by omega⟩)
          else A89 V0 (ix3 k ⟨x.val / 16, by omega⟩ ⟨x.val % 16, by omega⟩)) *
          (A64 V0 (ix3 k ⟨x.val / 16, by omega⟩ 0) * g V0)) :=
    eq_of _ _ fun P hP => dx_read V0 (A69 V0) (A89 V0) (A64 V0) (A50 V0) (DY V0) rfl rfl rfl rfl rfl t k P hP
  rw [e]
  refine Finset.sum_congr rfl fun x _ => ?_
  have hx : (⟨x.val / 16 * 16 + x.val % 16, by omega⟩ : Fin 11008) = x := Fin.ext (by show x.val / 16 * 16 + x.val % 16 = x.val; omega)
  have h := wq_apply V0 k ⟨x.val / 16, by omega⟩ ⟨x.val % 16, by omega⟩
  rw [h]
  simp only [hx]

theorem rv_apply (V0 : Val0) (k : Fin 4096) (j : Fin 688) (e : Fin 16) : rv V0 k j e =
    ∑ x : Fin 32, W V0 (ix2 k ⟨j.val / 2 * 32 + x.val, by omega⟩) * SG V0 (ix1 ⟨j.val / 2 * 32 + x.val, by omega⟩)
      * (if Lit.par x.val (j.val % 2 * 16 + e.val) then Ideal.ofBits .f32 0xBE3504F3#32 else Ideal.ofBits .f32 0x3E3504F3#32) :=
  eq_of _ _ fun P hP => v51_read V0 (W V0) (SG V0) rfl rfl k j e P hP

end Cert.Ref
-- ==== Proof.Tile.lean ====
/- The kernel's work on one tile, operation by operation, as functions of the arrays it reads: the rotated tile's magnitudes and
   signs, the blocks' maxima brought together by a tree of rotations, the scales, and the rounding of half a tile. -/
module

public import proofs.«01_k».proof.Proof.Gen.KernelIdeal.Value
public import Idealize.ShloMosaic.Lib.Pointwise

@[expose] public section

set_option maxRecDepth 16384

noncomputable section

namespace Cert.Tile

open Cert.KernelIdeal Cert.KernelIdeal.Gen Idealize.ShloMosaic Idealize.ShloMosaic.TcCoe

abbrev V := FVec Ideal S128x128 .f32
abbrev I := IVec S128x128 32

/-- A float constant in every entry. -/
def cst (b : BitVec 32) : V := broadcast S128x128 (Scalar.ofBits .f32 b)

/-- The lane of every entry. -/
def lane : I := iota .tc S128x128 32 [1] iota_S128x128_d1_w32

/-- Division by a constant, rounded down. -/
def fdiv (x : I) (k : BitVec 32) : I :=
  select (andi (cmpi .ne (subi (extui 32 (cmpi .sgt x (broadcast S128x128 0#32)) natLt_1_32)
      (extui 32 (cmpi .slt x (broadcast S128x128 0#32)) natLt_1_32))
      (broadcast S128x128 (Scalar.subi (Scalar.extui (Scalar.cmpi .sgt k 0#32)) (Scalar.extui (Scalar.cmpi .slt k 0#32)))))
      (cmpi .ne (remsi x (broadcast S128x128 k)) (broadcast S128x128 0#32)))
    (subi (divsi x (broadcast S128x128 k)) (broadcast S128x128 1#32)) (divsi x (broadcast S128x128 k))

/-- The remainder by a constant, of the constant's sign. -/
def fmod (x : I) (k : BitVec 32) : I :=
  select (andi (xori (cmpi .slt (remsi x (broadcast S128x128 (Scalar.select (Scalar.cmpi .eq k 0#32) 1#32 k))) (broadcast S128x128 0#32))
      (broadcastTo S128x128 (broadcast S128x128 (Scalar.cmpi .slt (Scalar.select (Scalar.cmpi .eq k 0#32) 1#32 k) 0#32)) broadcasts_S128x128_S128x128))
      (cmpi .ne (remsi x (broadcast S128x128 (Scalar.select (Scalar.cmpi .eq k 0#32) 1#32 k))) (broadcast S128x128 0#32)))
    (addi (remsi x (broadcast S128x128 (Scalar.select (Scalar.cmpi .eq k 0#32) 1#32 k))) (broadcast S128x128 (Scalar.select (Scalar.cmpi .eq k 0#32) 1#32 k)))
    (remsi x (broadcast S128x128 (Scalar.select (Scalar.cmpi .eq k 0#32) 1#32 k)))

/-- The lanes whose group of 16, moved by `o`, is odd in units of `d`. -/
def pick (o d : BitVec 32) : IVec S128x128 1 :=
  cmpi .eq (fmod (fdiv (addi (fdiv lane 16#32) (broadcast S128x128 o)) d) 2#32) (broadcast S128x128 1#32)

/-- Two arrays folded into one: each lane of either meets the lane `c` before it. -/
def node (o d c : BitVec 32) (z0 z1 : V) : V :=
  maximumf (select (pick o d) z1 z0) (dynamicRotate 1 c none (select (pick o d) z0 z1) rotates_S128x128_d1)

/-- One array folded with itself. -/
def single (c : BitVec 32) (z : V) : V := maximumf z (dynamicRotate 1 c none z rotates_S128x128_d1)

/-- The maxima of eight tiles' blocks. -/
def tree8 (p0 p1 p2 p3 p4 p5 p6 p7 : V) : V :=
  node 1#32 1#32 16#32
    (node 2#32 2#32 32#32 (node 0#32 4#32 64#32 p3 p7) (node 2#32 4#32 64#32 p1 p5))
    (node 3#32 2#32 32#32 (node 1#32 4#32 64#32 p2 p6) (node 3#32 4#32 64#32 p0 p4))

/-- The maxima of three tiles' blocks. -/
def tree3 (p0 p1 p2 : V) : V :=
  node 1#32 1#32 16#32 (single 32#32 (single 64#32 p1))
    (node 3#32 2#32 32#32 (single 64#32 p2) (single 64#32 p0))

/-- A tile of weights rotated. -/
def proj (w : FVec Ideal S128x256 .bf16) (h : FVec Ideal S256x256 .bf16) : FVec Ideal S128x256 .f32 :=
  matmul dot_S128x256_S256x256_S128x256_1_0_0_1_n_n none w (shapeCast S256x256 h shapeCasts_S256x256_S256x256) (constant S128x256 .f32 0x00000000#32)

/-- The larger magnitude of the tile's two halves. -/
def halfMax (w : FVec Ideal S128x256 .bf16) (h : FVec Ideal S256x256 .bf16) : V :=
  maximumf (extractStridedSlice S128x128 ![0, 0] (absf (proj w h)) slices_S128x256_o0_0_S128x128)
    (extractStridedSlice S128x128 ![0, 128] (absf (proj w h)) slices_S128x256_o0_128_S128x128)

/-- The magnitudes, as stored. -/
def mag (w : FVec Ideal S128x256 .bf16) (h : FVec Ideal S256x256 .bf16) : FVec Ideal S128x256 .f32 :=
  shapeCast S128x256 (absf (proj w h)) shapeCasts_S128x256_S128x256

/-- The signs, as stored. -/
def sgn (w : FVec Ideal S128x256 .bf16) (h : FVec Ideal S256x256 .bf16) : FVec Ideal S128x256 .fp8e5m2 :=
  shapeCast S128x256 (truncf .fp8e5m2 (select (cmpf .olt (proj w h) (broadcast S128x256 (Scalar.ofBits .f32 0x00000000#32)))
    (broadcast S128x256 (Scalar.ofBits .f32 0xBF800000#32) : FVec Ideal S128x256 .f32)
    (broadcast S128x256 (Scalar.ofBits .f32 0x3F800000#32))) bitsLt_fp8e5m2_f32) shapeCasts_S128x256_S128x256

/-- The floats whose exponents are `e`. -/
def pow2 (e : I) : V := bitcastToFloat .f32 (shli (addi e (broadcast S128x128 127#32)) (broadcast S128x128 23#32))

/-- Scale times `g`. -/
def scaleG (a : V) (e : I) : V :=
  mulf (extf .f32 (truncf .fp8e4m3 (select (cmpf .oeq a (cst 0x00000000#32)) (cst 0x3F800000#32)
    (mulf (mulf (mulf a (cst 0x3E3504F3#32)) (cst 0x3E2AAAAB#32)) (pow2 (subi (broadcast S128x128 0#32) e)))) bitsLt_fp8e4m3_f32)
    bitsLt_fp8e4m3_f32) (pow2 e)

/-- What a magnitude is multiplied by before the rounding. -/
def rinv (a : V) (e : I) : V := divf (cst 0x3AB504F3#32) (scaleG a e)

/-- What a decoded byte is multiplied by. -/
def deq (a : V) (e : I) : V :=
  extf .f32 (truncf .bf16 (mulf (scaleG a e) (cst 0x42800000#32)) bitsLt_bf16_f32) bitsLt_bf16_f32

/-- The lanes `t` … `t + 15` of an array, over and over. -/
def gat (t : BitVec 32) (x : V) : V :=
  dynamicGather 1 x (shapeCast S128x128 (shapeCast S128x128x1
    (select (cmpi .slt (addi (fmod lane 16#32) (broadcast S128x128 t)) (broadcast S128x128 0#32))
      (addi (addi (fmod lane 16#32) (broadcast S128x128 t)) (broadcast S128x128 128#32))
      (addi (fmod lane 16#32) (broadcast S128x128 t))) shapeCasts_S128x128_S128x128x1) shapeCasts_S128x128x1_S128x128)

def step (v : V) (e : I) (k : BitVec 32) : I :=
  select (cmpf .oge v (pow2 (addi e (broadcast S128x128 k)))) (addi e (broadcast S128x128 k)) e

def word (v : V) (e : I) : I :=
  addi (shli (addi e (broadcast S128x128 127#32)) (broadcast S128x128 23#32))
    (fptosi 32 (ceil (mulf (subf (mulf v (pow2 (subi (broadcast S128x128 0#32) e))) (cst 0x3F800000#32)) (cst 0x4B000000#32))))

/-- A magnitude laid out in the codes' steps. -/
def spread (m : V) : V := minimumf (addf m (maximumf m (cst 0x3C000000#32))) (cst 0x3E000000#32)

def code (m rn : V) : IVec S128x128 8 :=
  trunci 8 (minsi (trunci 16 (shrui (addi
    (word (spread m) (step (spread m) (step (spread m) (broadcast S128x128 4294967289#32) 2#32) 1#32))
    (word (addf rn (cst 0x443FDFFF#32)) (broadcast S128x128 9#32))) (broadcast S128x128 22#32)) natLt_16_32)
    (broadcast S128x128 519#16)) natLt_8_16

def signByte (sg : FVec Ideal S128x128 .fp8e5m2) : IVec S128x128 8 :=
  trunci 8 (select (cmpf .olt (extf .f32 sg bitsLt_fp8e5m2_f32) (cst 0x00000000#32))
    (broadcast S128x128 4294967168#32) (broadcast S128x128 0#32)) natLt_8_32

/-- The bytes of codes and signs merged, four to a word. -/
def merge (i s : IVec S128x128 8) : IVec S32x128 32 :=
  ori (shli (bitcast S32x128 32 i bitcasts_S128x128_w8_S32x128_w32) (broadcast S32x128 2#32))
    (andi (bitcast S32x128 32 s bitcasts_S128x128_w8_S32x128_w32) (broadcast S32x128 2155905152#32))

/-- The bytes read as floats of eight bits, times the scale. -/
def dec (f : IVec S32x128 32) (sc : FVec Ideal S128x128 .bf16) : FVec Ideal S128x128 .bf16 :=
  shapeCast S128x128 (mulf (extf .bf16 (bitcastToFloat .fp8e4m3 (bitcast S128x128 8 f bitcasts_S32x128_w32_S128x128_w8)) bitsLt_fp8e4m3_bf16) sc)
    shapeCasts_S128x128_S128x128

/-- The random bytes, in lane order and negated. -/
def rneg (r : IVec S128x256 8) (perm : FVec Ideal S256x256 .bf16) : FVec Ideal S128x256 .f32 :=
  matmul dot_S128x256_S256x256_S128x256_1_0_0_1_n_n none (truncf .bf16 (sitofp .f32 (extui 32 r natLt_8_32) : FVec Ideal S128x256 .f32) bitsLt_bf16_f32)
    perm (constant S128x256 .f32 0x00000000#32)

/-- Half a tile rounded and decoded. -/
def half (a : V) (sg : FVec Ideal S128x128 .fp8e5m2) (r : IVec S128x256 8) (perm : FVec Ideal S256x256 .bf16) (o : ℕ)
    (ho : S128x256.Slices ![0, o] S128x128) (d : V) (e : I) (t : BitVec 32) : FVec Ideal S128x128 .bf16 :=
  dec (merge (code (mulf a (gat t (rinv d e))) (extractStridedSlice S128x128 ![0, o] (rneg r perm) ho)) (signByte sg))
    (truncf .bf16 (gat t (deq d e)) bitsLt_bf16_f32)

end Cert.Tile
-- ==== Proof.Run.lean ====
/- What the kernel's run stores in its three scratch buffers, group by group, as the tile functions of Tile.lean. -/
module

public import proofs.«01_k».proof.Proof.Tile

@[expose] public section

set_option maxRecDepth 65536

noncomputable section

namespace Cert.Run

open Cert.KernelIdeal Cert.KernelIdeal.Gen Idealize.ShloMosaic Idealize.ShloMosaic.TcCoe Idealize.SL.Sem
open Cert.Tile

variable (c : Dev nD) (arg1 : Memref sig .tc .vmem S128x11008 .bf16) (harg1 : arg1.IsWhole)
  (arg2 : Memref sig .tc .vmem S128x11008 .i8) (harg2 : arg2.IsWhole)
  (arg3 : Memref sig .tc .vmem S11008x256 .bf16) (harg3 : arg3.IsWhole)
  (arg7 : Memref sig .tc .vmem S256x256 .bf16) (harg7 : arg7.IsWhole)
  (arg8 : Memref sig .tc .vmem S8x128 .f32) (harg8 : arg8.IsWhole)
  (arg14 : Memref sig .tc .vmem S128x2048 .f32) (arg15 : Memref sig .tc .vmem S128x2048 .fp8e5m2)
  (x0 : Vec Ideal S128x11008 .bf16) (x1 : Vec Ideal S128x11008 .i8) (x2 : Vec Ideal S11008x256 .bf16)
  (x6 : Vec Ideal S256x256 .bf16) (x7 : Vec Ideal S8x128 .f32)

/-- The loads of a group of `m` columns starting at column `o`: tile `t`'s weights, random bytes and rotation. -/
def wAt (o m t : ℕ) (h : ∀ a, (![0, o] : Fin 2 → ℕ) a + (![128, m] : Fin 2 → ℕ) a ≤ S128x11008.size a)
    (h' : ∀ a, (![0, 256 * t] : Fin 2 → ℕ) a + S128x256.size a ≤ (![128, m] : Fin 2 → ℕ) a) : Vec Ideal S128x256 .bf16 :=
  View.readAt (Elt Ideal) arg1.view ((Rect.unit (s := S128x11008) ![0, o] ![128, m] h).withinL
    (Rect.unit (s := ⟨2, ![128, m]⟩) ![0, 256 * t] S128x256.size h').toLoadRect (fun _ => rfl)) (harg1.unread x0)

def rAt (o m t : ℕ) (h : ∀ a, (![0, o] : Fin 2 → ℕ) a + (![128, m] : Fin 2 → ℕ) a ≤ S128x11008.size a)
    (h' : ∀ a, (![0, 256 * t] : Fin 2 → ℕ) a + S128x256.size a ≤ (![128, m] : Fin 2 → ℕ) a) : Vec Ideal S128x256 .i8 :=
  View.readAt (Elt Ideal) arg2.view ((Rect.unit (s := S128x11008) ![0, o] ![128, m] h).withinL
    (Rect.unit (s := ⟨2, ![128, m]⟩) ![0, 256 * t] S128x256.size h').toLoadRect (fun _ => rfl)) (harg2.unread x1)

def hAt (o t : ℕ) (h : ∀ a, (![o + 256 * t, 0] : Fin 2 → ℕ) a + S256x256.size a ≤ S11008x256.size a) : Vec Ideal S256x256 .bf16 :=
  View.readAt (Elt Ideal) arg3.view (Rect.unit (s := S11008x256) ![o + 256 * t, 0] S256x256.size h).toLoadRect (harg3.unread x2)

def pAll : Vec Ideal S256x256 .bf16 :=
  View.readAt (Elt Ideal) arg7.view (Rect.unit (s := S256x256) ![0, 0] S256x256.size inb_S256x256_S256x256_0_0).toLoadRect (harg7.unread x6)

theorem inW (o m : ℕ) (h : o + m ≤ 11008) : ∀ a, (![0, o] : Fin 2 → ℕ) a + (![128, m] : Fin 2 → ℕ) a ≤ S128x11008.size a := by
  intro a; fin_cases a
  · exact le_refl 128
  · exact h

theorem inT (m t : ℕ) (h : 256 * t + 256 ≤ m) : ∀ a, (![0, 256 * t] : Fin 2 → ℕ) a + S128x256.size a ≤ (![128, m] : Fin 2 → ℕ) a := by
  intro a; fin_cases a
  · exact le_refl 128
  · exact h

theorem inH (o t : ℕ) (h : o + 256 * t + 256 ≤ 11008) : ∀ a, (![o + 256 * t, 0] : Fin 2 → ℕ) a + S256x256.size a ≤ S11008x256.size a := by
  intro a; fin_cases a
  · exact h
  · exact le_refl 256

/-- Tile `t` of full group `g`. -/
def W (g : Fin 5) (t : Fin 8) := wAt arg1 harg1 x0 (2048 * g) 2048 t (inW _ _ (by omega)) (inT _ _ (by omega))
def R (g : Fin 5) (t : Fin 8) := rAt arg2 harg2 x1 (2048 * g) 2048 t (inW _ _ (by omega)) (inT _ _ (by omega))
def H (g : Fin 5) (t : Fin 8) := hAt arg3 harg3 x2 (2048 * g) t (inH _ _ (by omega))

/-- Tile `t` of the last group. -/
def W' (t : Fin 3) := wAt arg1 harg1 x0 10240 768 t (inW _ _ (by omega)) (inT _ _ (by omega))
def R' (t : Fin 3) := rAt arg2 harg2 x1 10240 768 t (inW _ _ (by omega)) (inT _ _ (by omega))
def H' (t : Fin 3) := hAt arg3 harg3 x2 10240 t (inH _ _ (by omega))

/-- A piece of a scratch buffer: tile `t`, or half tile `j`. -/
def tileAt {e : EltTy} (t : Fin 8) (v : Vec Ideal S128x256 e) : View.Piece (Elt Ideal) S128x2048 e :=
  ⟨Rect.unit (s := S128x2048) ![0, 256 * t] S128x256.size (inT _ _ (by omega)), v⟩

theorem inHalf (j : ℕ) (h : 128 * j + 128 ≤ 2048) : ∀ a, (![0, 128 * j] : Fin 2 → ℕ) a + S128x128.size a ≤ S128x2048.size a := by
  intro a; fin_cases a
  · exact le_refl 128
  · exact h

def halfAt {e : EltTy} (j : Fin 16) (v : Vec Ideal S128x128 e) : View.Piece (Elt Ideal) S128x2048 e :=
  ⟨Rect.unit (s := S128x2048) ![0, 128 * j] S128x128.size (inHalf _ (by omega)), v⟩

def eights : List (Fin 8) := [7, 6, 5, 4, 3, 2, 1, 0]
def threes : List (Fin 3) := [2, 1, 0]

/-- The magnitudes of full group `g`, over what was there. -/
def magG (g : Fin 5) : List (View.Piece (Elt Ideal) S128x2048 .f32) :=
   eights.map (fun t => tileAt (e := .f32) t (mag (W arg1 harg1 x0 g t) (H arg3 harg3 x2 g t)))
/-- The signs of full group `g`. -/
def sgnG (g : Fin 5) : List (View.Piece (Elt Ideal) S128x2048 .fp8e5m2) :=
   eights.map (fun t => tileAt (e := .fp8e5m2) t (sgn (W arg1 harg1 x0 g t) (H arg3 harg3 x2 g t)))
/-- The same of the last group. -/
def magL : List (View.Piece (Elt Ideal) S128x2048 .f32) :=
   threes.map (fun t => tileAt (e := .f32) (t.castLE (by decide)) (mag (W' arg1 harg1 x0 t) (H' arg3 harg3 x2 t)))
def sgnL : List (View.Piece (Elt Ideal) S128x2048 .fp8e5m2) :=
   threes.map (fun t => tileAt (e := .fp8e5m2) (t.castLE (by decide)) (sgn (W' arg1 harg1 x0 t) (H' arg3 harg3 x2 t)))

theorem mag0 : kernelRun0_A.sl.HS0_8 (F := Ideal) c arg1 harg1 arg3 harg3 x0 x2 =
    magG arg1 harg1 arg3 harg3 x0 x2 0 ++ [] := rfl
theorem mag1 : kernelRun0_A.sl.HS0_16 (F := Ideal) c arg1 harg1 arg3 harg3 x0 x2 =
    magG arg1 harg1 arg3 harg3 x0 x2 1 ++ kernelRun0_A.sl.HS0_8 c arg1 harg1 arg3 harg3 x0 x2 := rfl
theorem mag2 : kernelRun0_A.sl.HS0_24 (F := Ideal) c arg1 harg1 arg3 harg3 x0 x2 =
    magG arg1 harg1 arg3 harg3 x0 x2 2 ++ kernelRun0_A.sl.HS0_16 c arg1 harg1 arg3 harg3 x0 x2 := rfl
theorem mag3 : kernelRun0_A.sl.HS0_32 (F := Ideal) c arg1 harg1 arg3 harg3 x0 x2 =
    magG arg1 harg1 arg3 harg3 x0 x2 3 ++ kernelRun0_A.sl.HS0_24 c arg1 harg1 arg3 harg3 x0 x2 := rfl
theorem mag4 : kernelRun0_A.sl.HS0_40 (F := Ideal) c arg1 harg1 arg3 harg3 x0 x2 =
    magG arg1 harg1 arg3 harg3 x0 x2 4 ++ kernelRun0_A.sl.HS0_32 c arg1 harg1 arg3 harg3 x0 x2 := rfl
theorem mag5 : kernelRun0_A.sl.HS0_43 (F := Ideal) c arg1 harg1 arg3 harg3 x0 x2 =
    magL arg1 harg1 arg3 harg3 x0 x2 ++ kernelRun0_A.sl.HS0_40 c arg1 harg1 arg3 harg3 x0 x2 := rfl

theorem sgn0 : kernelRun0_A.sl.HS1_8 (F := Ideal) c arg1 harg1 arg3 harg3 x0 x2 =
    sgnG arg1 harg1 arg3 harg3 x0 x2 0 ++ [] := rfl
theorem sgn1 : kernelRun0_A.sl.HS1_16 (F := Ideal) c arg1 harg1 arg3 harg3 x0 x2 =
    sgnG arg1 harg1 arg3 harg3 x0 x2 1 ++ kernelRun0_A.sl.HS1_8 c arg1 harg1 arg3 harg3 x0 x2 := rfl
theorem sgn2 : kernelRun0_A.sl.HS1_24 (F := Ideal) c arg1 harg1 arg3 harg3 x0 x2 =
    sgnG arg1 harg1 arg3 harg3 x0 x2 2 ++ kernelRun0_A.sl.HS1_16 c arg1 harg1 arg3 harg3 x0 x2 := rfl
theorem sgn3 : kernelRun0_A.sl.HS1_32 (F := Ideal) c arg1 harg1 arg3 harg3 x0 x2 =
    sgnG arg1 harg1 arg3 harg3 x0 x2 3 ++ kernelRun0_A.sl.HS1_24 c arg1 harg1 arg3 harg3 x0 x2 := rfl
theorem sgn4 : kernelRun0_A.sl.HS1_40 (F := Ideal) c arg1 harg1 arg3 harg3 x0 x2 =
    sgnG arg1 harg1 arg3 harg3 x0 x2 4 ++ kernelRun0_A.sl.HS1_32 c arg1 harg1 arg3 harg3 x0 x2 := rfl
theorem sgn5 : kernelRun0_A.sl.HS1_43 (F := Ideal) c arg1 harg1 arg3 harg3 x0 x2 =
    sgnL arg1 harg1 arg3 harg3 x0 x2 ++ kernelRun0_A.sl.HS1_40 c arg1 harg1 arg3 harg3 x0 x2 := rfl

/-- The blocks' maxima of full group `g`. -/
def maxG (g : Fin 5) : V :=
  tree8 (halfMax (W arg1 harg1 x0 g 0) (H arg3 harg3 x2 g 0)) (halfMax (W arg1 harg1 x0 g 1) (H arg3 harg3 x2 g 1))
    (halfMax (W arg1 harg1 x0 g 2) (H arg3 harg3 x2 g 2)) (halfMax (W arg1 harg1 x0 g 3) (H arg3 harg3 x2 g 3))
    (halfMax (W arg1 harg1 x0 g 4) (H arg3 harg3 x2 g 4)) (halfMax (W arg1 harg1 x0 g 5) (H arg3 harg3 x2 g 5))
    (halfMax (W arg1 harg1 x0 g 6) (H arg3 harg3 x2 g 6)) (halfMax (W arg1 harg1 x0 g 7) (H arg3 harg3 x2 g 7))

/-- The blocks' maxima of the last group. -/
def maxL : V :=
  tree3 (halfMax (W' arg1 harg1 x0 0) (H' arg3 harg3 x2 0)) (halfMax (W' arg1 harg1 x0 1) (H' arg3 harg3 x2 1))
    (halfMax (W' arg1 harg1 x0 2) (H' arg3 harg3 x2 2))

/-- The exponent, in every entry. -/
def exp : I := kernelRun0_A.sl.r_7 (F := Ideal) c arg8 harg8 x7

/-- The loads of half tile `j` back from the scratch buffers. -/
def magHalf (L : List (View.Piece (Elt Ideal) S128x2048 .f32)) (j : Fin 16) : Vec Ideal S128x128 .f32 :=
  arg14.view.readCov L (Rect.unit (s := S128x2048) ![0, 128 * j] S128x128.size (inHalf _ (by omega))).toLoadRect
def sgnHalf (L : List (View.Piece (Elt Ideal) S128x2048 .fp8e5m2)) (j : Fin 16) : Vec Ideal S128x128 .fp8e5m2 :=
  arg15.view.readCov L (Rect.unit (s := S128x2048) ![0, 128 * j] S128x128.size (inHalf _ (by omega))).toLoadRect

/-- The offset of half `j % 2` in its tile. -/
theorem inSlice (j : ℕ) : S128x256.Slices ![0, 128 * (j % 2)] S128x128 := by
  rcases Nat.mod_two_eq_zero_or_one j with h | h <;> rw [h]
  · exact slices_S128x256_o0_0_S128x128
  · exact slices_S128x256_o0_128_S128x128

def sixteens : List (Fin 16) := [15, 14, 13, 12, 11, 10, 9, 8, 7, 6, 5, 4, 3, 2, 1, 0]
def sixes : List (Fin 6) := [5, 4, 3, 2, 1, 0]

/-- The decoded values of full group `g`, by half tiles. -/
def decG (g : Fin 5) (L0 : List (View.Piece (Elt Ideal) S128x2048 .f32)) (L1 : List (View.Piece (Elt Ideal) S128x2048 .fp8e5m2)) :
    List (View.Piece (Elt Ideal) S128x2048 .bf16) :=
  sixteens.map fun j : Fin 16 => halfAt (e := .bf16) j (half (magHalf arg14 L0 j) (sgnHalf arg15 L1 j) (R arg2 harg2 x1 g ⟨j / 2, by omega⟩) (pAll arg7 harg7 x6)
    (128 * (j.val % 2)) (inSlice j) (maxG arg1 harg1 arg3 harg3 x0 x2 g) (exp c arg8 harg8 x7) (BitVec.ofNat 32 (16 * (j / 2))))

/-- The decoded values of the last group. -/
def decL (L0 : List (View.Piece (Elt Ideal) S128x2048 .f32)) (L1 : List (View.Piece (Elt Ideal) S128x2048 .fp8e5m2)) :
    List (View.Piece (Elt Ideal) S128x2048 .bf16) :=
  sixes.map fun j : Fin 6 => halfAt (e := .bf16) (j.castLE (by decide)) (half (magHalf arg14 L0 (j.castLE (by decide))) (sgnHalf arg15 L1 (j.castLE (by decide)))
    (R' arg2 harg2 x1 ⟨j / 2, by omega⟩) (pAll arg7 harg7 x6)
    (128 * (j.val % 2)) (inSlice j) (maxL arg1 harg1 arg3 harg3 x0 x2) (exp c arg8 harg8 x7) (BitVec.ofNat 32 (16 * (j / 2))))

theorem dec0 : kernelRun0_A.sl.HS2_16 (F := Ideal) c arg1 harg1 arg2 harg2 arg3 harg3 arg7 harg7 arg8 harg8 arg14 arg15 x0 x1 x2 x6 x7 =
    decG c arg1 harg1 arg2 harg2 arg3 harg3 arg7 harg7 arg8 harg8 arg14 arg15 x0 x1 x2 x6 x7 0 (kernelRun0_A.sl.HS0_8 c arg1 harg1 arg3 harg3 x0 x2)
      (kernelRun0_A.sl.HS1_8 c arg1 harg1 arg3 harg3 x0 x2) ++ [] := rfl
theorem dec1 : kernelRun0_A.sl.HS2_32 (F := Ideal) c arg1 harg1 arg2 harg2 arg3 harg3 arg7 harg7 arg8 harg8 arg14 arg15 x0 x1 x2 x6 x7 =
    decG c arg1 harg1 arg2 harg2 arg3 harg3 arg7 harg7 arg8 harg8 arg14 arg15 x0 x1 x2 x6 x7 1 (kernelRun0_A.sl.HS0_16 c arg1 harg1 arg3 harg3 x0 x2)
      (kernelRun0_A.sl.HS1_16 c arg1 harg1 arg3 harg3 x0 x2) ++ kernelRun0_A.sl.HS2_16 c arg1 harg1 arg2 harg2 arg3 harg3 arg7 harg7 arg8 harg8 arg14 arg15 x0 x1 x2 x6 x7 := rfl
theorem dec2 : kernelRun0_A.sl.HS2_48 (F := Ideal) c arg1 harg1 arg2 harg2 arg3 harg3 arg7 harg7 arg8 harg8 arg14 arg15 x0 x1 x2 x6 x7 =
    decG c arg1 harg1 arg2 harg2 arg3 harg3 arg7 harg7 arg8 harg8 arg14 arg15 x0 x1 x2 x6 x7 2 (kernelRun0_A.sl.HS0_24 c arg1 harg1 arg3 harg3 x0 x2)
      (kernelRun0_A.sl.HS1_24 c arg1 harg1 arg3 harg3 x0 x2) ++ kernelRun0_A.sl.HS2_32 c arg1 harg1 arg2 harg2 arg3 harg3 arg7 harg7 arg8 harg8 arg14 arg15 x0 x1 x2 x6 x7 := rfl
theorem dec3 : kernelRun0_A.sl.HS2_64 (F := Ideal) c arg1 harg1 arg2 harg2 arg3 harg3 arg7 harg7 arg8 harg8 arg14 arg15 x0 x1 x2 x6 x7 =
    decG c arg1 harg1 arg2 harg2 arg3 harg3 arg7 harg7 arg8 harg8 arg14 arg15 x0 x1 x2 x6 x7 3 (kernelRun0_A.sl.HS0_32 c arg1 harg1 arg3 harg3 x0 x2)
      (kernelRun0_A.sl.HS1_32 c arg1 harg1 arg3 harg3 x0 x2) ++ kernelRun0_A.sl.HS2_48 c arg1 harg1 arg2 harg2 arg3 harg3 arg7 harg7 arg8 harg8 arg14 arg15 x0 x1 x2 x6 x7 := rfl
theorem dec4 : kernelRun0_A.sl.HS2_80 (F := Ideal) c arg1 harg1 arg2 harg2 arg3 harg3 arg7 harg7 arg8 harg8 arg14 arg15 x0 x1 x2 x6 x7 =
    decG c arg1 harg1 arg2 harg2 arg3 harg3 arg7 harg7 arg8 harg8 arg14 arg15 x0 x1 x2 x6 x7 4 (kernelRun0_A.sl.HS0_40 c arg1 harg1 arg3 harg3 x0 x2)
      (kernelRun0_A.sl.HS1_40 c arg1 harg1 arg3 harg3 x0 x2) ++ kernelRun0_A.sl.HS2_64 c arg1 harg1 arg2 harg2 arg3 harg3 arg7 harg7 arg8 harg8 arg14 arg15 x0 x1 x2 x6 x7 := rfl
theorem dec5 : kernelRun0_A.sl.HS2_86 (F := Ideal) c arg1 harg1 arg2 harg2 arg3 harg3 arg7 harg7 arg8 harg8 arg14 arg15 x0 x1 x2 x6 x7 =
    decL c arg1 harg1 arg2 harg2 arg3 harg3 arg7 harg7 arg8 harg8 arg14 arg15 x0 x1 x2 x6 x7 (kernelRun0_A.sl.HS0_43 c arg1 harg1 arg3 harg3 x0 x2)
      (kernelRun0_A.sl.HS1_43 c arg1 harg1 arg3 harg3 x0 x2) ++ kernelRun0_A.sl.HS2_80 c arg1 harg1 arg2 harg2 arg3 harg3 arg7 harg7 arg8 harg8 arg14 arg15 x0 x1 x2 x6 x7 := rfl

end Cert.Run
-- ==== Proof.Dx.lean ====
/- What the body leaves in its `dx` block: the products of the decoded values of six groups of columns, added up. -/
module

public import proofs.«01_k».proof.Proof.Run
public import Idealize.ShloMosaic.Lib.Pipeline.ValueKit

@[expose] public section

set_option maxRecDepth 65536

noncomputable section

namespace Cert.Dx

open Cert.KernelIdeal Cert.KernelIdeal.Gen Idealize.ShloMosaic Idealize.ShloMosaic.TcCoe Idealize.SL.Sem
open Idealize.ShloMosaic.Pipeline (Dat)

/-- One group's products. -/
def part (arg4 : Memref sig .tc .vmem S11008x256 .bf16) (harg4 : arg4.IsWhole) (arg16 : Memref sig .tc .vmem S128x2048 .bf16)
    (x3 : Vec Ideal S11008x256 .bf16) (o : ℕ) (h : ∀ a, (![o, 0] : Fin 2 → ℕ) a + S2048x256.size a ≤ S11008x256.size a)
    (L : List (View.Piece (Elt Ideal) S128x2048 .bf16)) : FVec Ideal S128x256 .f32 :=
  matmul (φ₁ := .bf16) (φ₂ := .bf16) dot_S128x2048_S2048x256_S128x256_1_0_0_1_n_n none
    (arg16.view.readCov L (Rect.unit (s := S128x2048) ![0, 0] S128x2048.size inb_S128x2048_S128x2048_0_0).toLoadRect)
    (View.readAt (Elt Ideal) arg4.view (Rect.unit (s := S11008x256) ![o, 0] S2048x256.size h).toLoadRect (harg4.unread x3))
    (constant S128x256 .f32 0x00000000#32)

/-- The last group's products. -/
def partL (arg4 : Memref sig .tc .vmem S11008x256 .bf16) (harg4 : arg4.IsWhole) (arg16 : Memref sig .tc .vmem S128x2048 .bf16)
    (x3 : Vec Ideal S11008x256 .bf16) (L : List (View.Piece (Elt Ideal) S128x2048 .bf16)) : FVec Ideal S128x256 .f32 :=
  matmul (φ₁ := .bf16) (φ₂ := .bf16) dot_S128x768_S768x256_S128x256_1_0_0_1_n_n none
    (arg16.view.readCov L (Rect.unit (s := S128x2048) ![0, 0] S128x768.size inb_S128x2048_S128x768_0_0).toLoadRect)
    (View.readAt (Elt Ideal) arg4.view (Rect.unit (s := S11008x256) ![10240, 0] S768x256.size inb_S11008x256_S768x256_10240_0).toLoadRect (harg4.unread x3))
    (constant S128x256 .f32 0x00000000#32)

/-- A group's products, at an index. -/
theorem part_apply (arg4 : Memref sig .tc .vmem S11008x256 .bf16) (harg4 : arg4.IsWhole) (arg16 : Memref sig .tc .vmem S128x2048 .bf16)
    (x3 : Vec Ideal S11008x256 .bf16) (o : ℕ) (ho : o + 2048 ≤ 11008) (h : ∀ a, (![o, 0] : Fin 2 → ℕ) a + S2048x256.size a ≤ S11008x256.size a)
    (L : List (View.Piece (Elt Ideal) S128x2048 .bf16)) (y : S128x256.Idx) :
    part arg4 harg4 arg16 x3 o h L y = ∑ k : Fin 2048, View.canon L (ix2 (y 0) k) * x3 (ix2 ⟨o + k, by omega⟩ (y 1)) := by
  unfold part
  rw [View.readCov_eq_canon', View.readAt_eq_ld, harg4.read_unread]
  pointwise

theorem partL_apply (arg4 : Memref sig .tc .vmem S11008x256 .bf16) (harg4 : arg4.IsWhole) (arg16 : Memref sig .tc .vmem S128x2048 .bf16)
    (x3 : Vec Ideal S11008x256 .bf16) (L : List (View.Piece (Elt Ideal) S128x2048 .bf16)) (y : S128x256.Idx) :
    partL arg4 harg4 arg16 x3 L y = ∑ k : Fin 768, View.canon L (ix2 (y 0) (k.castLE (by decide))) * x3 (ix2 ⟨10240 + k, by omega⟩ (y 1)) := by
  unfold partL
  rw [View.readCov_eq_canon', View.readAt_eq_ld, harg4.read_unread]
  pointwise
  refine Finset.sum_congr rfl fun k _ => ?_
  refine congrArg₂ (· * ·) (congrArg _ ?_) (congrArg x3 ?_) <;>
    (funext a; refine Fin.ext ?_; fin_cases a <;> simp [ix2, LoadRect.idx])

theorem dx_apply (c : Dev nD) (i : grid0.Coords) (arg1 : Memref sig .tc .vmem S128x11008 .bf16) (harg1 : arg1.IsWhole) (arg2 : Memref sig .tc .vmem S128x11008 .i8) (harg2 : arg2.IsWhole) (arg3 : Memref sig .tc .vmem S11008x256 .bf16) (harg3 : arg3.IsWhole) (arg4 : Memref sig .tc .vmem S11008x256 .bf16) (harg4 : arg4.IsWhole) (arg5 : Memref sig .tc .vmem S256x11008 .bf16) (harg5 : arg5.IsWhole) (arg6 : Memref sig .tc .vmem S128x256 .bf16) (harg6 : arg6.IsWhole) (arg7 : Memref sig .tc .vmem S256x256 .bf16) (harg7 : arg7.IsWhole) (arg8 : Memref sig .tc .vmem S8x128 .f32) (harg8 : arg8.IsWhole) (arg9 : Memref sig .tc .vmem S128x5504 .i8) (harg9 : arg9.IsWhole) (arg10 : Memref sig .tc .vmem S128x688 .fp8e4m3) (harg10 : arg10.IsWhole) (arg11 : Memref sig .tc .vmem S8x128 .f32) (harg11 : arg11.IsWhole) (arg12 : Memref sig .tc .vmem S256x128 .bf16) (harg12 : arg12.IsWhole) (arg13 : Memref sig .tc .vmem S128x11008 .f32) (harg13 : arg13.IsWhole) (arg14 : Memref sig .tc .vmem S128x2048 .f32) (harg14 : arg14.IsWhole) (arg15 : Memref sig .tc .vmem S128x2048 .fp8e5m2) (harg15 : arg15.IsWhole) (arg16 : Memref sig .tc .vmem S128x2048 .bf16) (harg16 : arg16.IsWhole)
    (x0 : Vec Ideal S128x11008 .bf16) (x1 : Vec Ideal S128x11008 .i8) (x2 : Vec Ideal S11008x256 .bf16) (x3 : Vec Ideal S11008x256 .bf16) (x4 : Vec Ideal S256x11008 .bf16) (x5 : Vec Ideal S128x256 .bf16) (x6 : Vec Ideal S256x256 .bf16) (x7 : Vec Ideal S8x128 .f32) (y : S256x128.Idx) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y =
      ((((((∑ k : Fin 2048, View.canon (kernelRun0_A.sl.HS2_16 c arg1 harg1 arg2 harg2 arg3 harg3 arg7 harg7 arg8 harg8 arg14 arg15 x0 x1 x2 x6 x7) (ix2 (y 1) (k.castLE (by decide))) * x3 (ix2 ⟨0 + k, by omega⟩ (y 0)))
      + (∑ k : Fin 2048, View.canon (kernelRun0_A.sl.HS2_32 c arg1 harg1 arg2 harg2 arg3 harg3 arg7 harg7 arg8 harg8 arg14 arg15 x0 x1 x2 x6 x7) (ix2 (y 1) (k.castLE (by decide))) * x3 (ix2 ⟨2048 + k, by omega⟩ (y 0))))
      + (∑ k : Fin 2048, View.canon (kernelRun0_A.sl.HS2_48 c arg1 harg1 arg2 harg2 arg3 harg3 arg7 harg7 arg8 harg8 arg14 arg15 x0 x1 x2 x6 x7) (ix2 (y 1) (k.castLE (by decide))) * x3 (ix2 ⟨4096 + k, by omega⟩ (y 0))))
      + (∑ k : Fin 2048, View.canon (kernelRun0_A.sl.HS2_64 c arg1 harg1 arg2 harg2 arg3 harg3 arg7 harg7 arg8 harg8 arg14 arg15 x0 x1 x2 x6 x7) (ix2 (y 1) (k.castLE (by decide))) * x3 (ix2 ⟨6144 + k, by omega⟩ (y 0))))
      + (∑ k : Fin 2048, View.canon (kernelRun0_A.sl.HS2_80 c arg1 harg1 arg2 harg2 arg3 harg3 arg7 harg7 arg8 harg8 arg14 arg15 x0 x1 x2 x6 x7) (ix2 (y 1) (k.castLE (by decide))) * x3 (ix2 ⟨8192 + k, by omega⟩ (y 0))))
      + (∑ k : Fin 768, View.canon (kernelRun0_A.sl.HS2_86 c arg1 harg1 arg2 harg2 arg3 harg3 arg7 harg7 arg8 harg8 arg14 arg15 x0 x1 x2 x6 x7) (ix2 (y 1) (k.castLE (by decide))) * x3 (ix2 ⟨10240 + k, by omega⟩ (y 0)))) := by
  have hL : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7).2.2.2.1 =
      [⟨Rect.unit (s := S256x128) ![0, 0] S256x128.size inb_S256x128_S256x128_0_0, truncf (φ := .f32) .bf16 (transpose S256x128 [1, 0]
      (addf (addf (addf (addf (addf (part arg4 harg4 arg16 x3 0 inb_S11008x256_S2048x256_0_0 (kernelRun0_A.sl.HS2_16 c arg1 harg1 arg2 harg2 arg3 harg3 arg7 harg7 arg8 harg8 arg14 arg15 x0 x1 x2 x6 x7))
      (part arg4 harg4 arg16 x3 2048 inb_S11008x256_S2048x256_2048_0 (kernelRun0_A.sl.HS2_32 c arg1 harg1 arg2 harg2 arg3 harg3 arg7 harg7 arg8 harg8 arg14 arg15 x0 x1 x2 x6 x7)))
      (part arg4 harg4 arg16 x3 4096 inb_S11008x256_S2048x256_4096_0 (kernelRun0_A.sl.HS2_48 c arg1 harg1 arg2 harg2 arg3 harg3 arg7 harg7 arg8 harg8 arg14 arg15 x0 x1 x2 x6 x7)))
      (part arg4 harg4 arg16 x3 6144 inb_S11008x256_S2048x256_6144_0 (kernelRun0_A.sl.HS2_64 c arg1 harg1 arg2 harg2 arg3 harg3 arg7 harg7 arg8 harg8 arg14 arg15 x0 x1 x2 x6 x7)))
      (part arg4 harg4 arg16 x3 8192 inb_S11008x256_S2048x256_8192_0 (kernelRun0_A.sl.HS2_80 c arg1 harg1 arg2 harg2 arg3 harg3 arg7 harg7 arg8 harg8 arg14 arg15 x0 x1 x2 x6 x7)))
      (partL arg4 harg4 arg16 x3 (kernelRun0_A.sl.HS2_86 c arg1 harg1 arg2 harg2 arg3 harg3 arg7 harg7 arg8 harg8 arg14 arg15 x0 x1 x2 x6 x7)))
      transposes_S128x256_p1_0_S256x128) bitsLt_bf16_f32⟩] := rfl
  unfold out0_A_11
  rw [hL, View.read_writes_junk_eq_canon, View.canon_cons_unit_zero (by funext a; fin_cases a <;> rfl)]
  have e : ∀ z : FVec Ideal S128x256 .f32, truncf (φ := .f32) .bf16 (transpose S256x128 [1, 0] z transposes_S128x256_p1_0_S256x128) bitsLt_bf16_f32 y = z (ix2 (y 1) (y 0)) := by
    intro z
    pointwise
  refine (e _).trans ?_
  refine congrArg₂ (· + ·) (congrArg₂ (· + ·) (congrArg₂ (· + ·) (congrArg₂ (· + ·) (congrArg₂ (· + ·)
    ?_ ?_) ?_) ?_) ?_) (partL_apply _ _ _ _ _ _)
  · exact part_apply _ _ _ _ _ (by decide) _ _ _
  · exact part_apply _ _ _ _ _ (by decide) _ _ _
  · exact part_apply _ _ _ _ _ (by decide) _ _ _
  · exact part_apply _ _ _ _ _ (by decide) _ _ _
  · exact part_apply _ _ _ _ _ (by decide) _ _ _

end Cert.Dx
-- ==== Proof.Blocks.lean ====
/- The tree of rotations, block by block: what lane `16 t + b` of the folded array holds; and the lanes a scale is taken from. -/
module

public import proofs.«01_k».proof.Proof.Tile

@[expose] public section

set_option maxRecDepth 16384

noncomputable section

namespace Cert.Blocks

open Cert.KernelIdeal Cert.KernelIdeal.Gen Idealize.ShloMosaic Idealize.ShloMosaic.TcCoe
open Cert.Tile

/-- `Tile.fdiv` of one word. -/
def fdiv1 (x k : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt k 0#32)) (Scalar.extui (Scalar.cmpi .slt k 0#32))))
      (IntOp.cmpi .ne (IntOp.remsi .vector x k) 0#32))
    (IntOp.subi (IntOp.divsi .vector x k) 1#32) (IntOp.divsi .vector x k)

/-- `Tile.fmod` of one word. -/
def fmod1 (x k : BitVec 32) : BitVec 32 :=
  Scalar.select (IntOp.andi (IntOp.xori (IntOp.cmpi .slt (IntOp.remsi .vector x (Scalar.select (Scalar.cmpi .eq k 0#32) 1#32 k)) 0#32)
      (Scalar.cmpi .slt (Scalar.select (Scalar.cmpi .eq k 0#32) 1#32 k) 0#32))
      (IntOp.cmpi .ne (IntOp.remsi .vector x (Scalar.select (Scalar.cmpi .eq k 0#32) 1#32 k)) 0#32))
    (IntOp.addi (IntOp.remsi .vector x (Scalar.select (Scalar.cmpi .eq k 0#32) 1#32 k)) (Scalar.select (Scalar.cmpi .eq k 0#32) 1#32 k))
    (IntOp.remsi .vector x (Scalar.select (Scalar.cmpi .eq k 0#32) 1#32 k))

theorem fdiv_apply (x : I) (k : BitVec 32) (y : S128x128.Idx) : fdiv x k y = fdiv1 (x y) k := by
  unfold fdiv fdiv1; pointwise

theorem fmod_apply (x : I) (k : BitVec 32) (y : S128x128.Idx) : fmod x k y = fmod1 (x y) k := by
  unfold fmod fmod1; pointwise

/-- The choice of a lane. -/
def pick1 (o d : BitVec 32) (l : ℕ) : BitVec 1 :=
  IntOp.cmpi .eq (fmod1 (fdiv1 (IntOp.addi (fdiv1 (BitVec.ofNat 32 l) 16#32) o) d) 2#32) 1#32

theorem pick_apply (o d : BitVec 32) (y : S128x128.Idx) : pick o d y = pick1 o d (y 1) := by
  unfold pick pick1
  pointwise
  rw [fmod_apply, fdiv_apply]
  pointwise
  rw [fdiv_apply]
  unfold lane
  pointwise

/-- Lane `b` of block `t`. -/
def at' (t : Fin 8) (b : Fin 16) : Fin 128 := ⟨16 * t + b, by omega⟩

def blk (z : V) (r : Fin 128) (b : Fin 16) (t : Fin 8) : EReal := z (ix2 r (at' t b))

/-- Whether block `t` is chosen. -/
def odd (o d : ℕ) (t : Fin 8) : Bool := (t.val + o) / d % 2 == 1

theorem node_blk (o d : ℕ) (c : Fin 8) (hm : ∀ t b, pick1 (BitVec.ofNat 32 o) (BitVec.ofNat 32 d) (at' t b) = BitVec.ofBool (odd o d t))
    (z0 z1 : V) (r : Fin 128) (b : Fin 16) (t : Fin 8) :
    blk (node (BitVec.ofNat 32 o) (BitVec.ofNat 32 d) (BitVec.ofNat 32 (16 * c)) z0 z1) r b t =
      max (if odd o d t then blk z1 r b t else blk z0 r b t) (if odd o d (t - c) then blk z0 r b (t - c) else blk z1 r b (t - c)) := by
  have hc : ∀ h, (⟨((at' t b).val + 128 - (BitVec.ofNat 32 (16 * c)).toNat % 128) % 128, h⟩ : Fin 128) = at' (t - c) b := by
    intro h
    refine Fin.ext ?_
    have : ((t - c : Fin 8) : ℕ) = (8 - c + t) % 8 := Fin.val_sub t c
    simp only [at', this, BitVec.toNat_ofNat]
    omega
  unfold blk node
  pointwise
  rw [pick_apply, pick_apply]
  show max (Scalar.select (pick1 _ _ (at' t b)) (z1 (ix2 r (at' t b))) (z0 (ix2 r (at' t b))))
    (Scalar.select (pick1 _ _ (⟨((at' t b).val + 128 - (BitVec.ofNat 32 (16 * c)).toNat % 128) % 128, _⟩ : Fin 128))
      (z0 (ix2 r (⟨((at' t b).val + 128 - (BitVec.ofNat 32 (16 * c)).toNat % 128) % 128, _⟩ : Fin 128)))
      (z1 (ix2 r (⟨((at' t b).val + 128 - (BitVec.ofNat 32 (16 * c)).toNat % 128) % 128, _⟩ : Fin 128)))) = _
  rw [hc, hm, hm]
  cases odd o d t <;> cases odd o d (t - c) <;> rfl

theorem single_blk (c : Fin 8) (z : V) (r : Fin 128) (b : Fin 16) (t : Fin 8) :
    blk (single (BitVec.ofNat 32 (16 * c)) z) r b t = max (blk z r b t) (blk z r b (t - c)) := by
  have hc : ∀ h, (⟨((at' t b).val + 128 - (BitVec.ofNat 32 (16 * c)).toNat % 128) % 128, h⟩ : Fin 128) = at' (t - c) b := by
    intro h
    refine Fin.ext ?_
    have : ((t - c : Fin 8) : ℕ) = (8 - c + t) % 8 := Fin.val_sub t c
    simp only [at', this, BitVec.toNat_ofNat]
    omega
  unfold blk single
  pointwise
  show max (z (ix2 r (at' t b))) (z (ix2 r (⟨((at' t b).val + 128 - (BitVec.ofNat 32 (16 * c)).toNat % 128) % 128, _⟩ : Fin 128))) = _
  rw [hc]

/-- The masks of the tree's seven nodes. -/
theorem mask (o d : ℕ) (h : (o, d) ∈ [(0, 4), (1, 4), (2, 4), (3, 4), (2, 2), (3, 2), (1, 1)]) (t : Fin 8) (b : Fin 16) :
    pick1 (BitVec.ofNat 32 o) (BitVec.ofNat 32 d) (at' t b) = BitVec.ofBool (odd o d t) := by
  have : ∀ p ∈ [(0, 4), (1, 4), (2, 4), (3, 4), (2, 2), (3, 2), (1, 1)], ∀ t b,
      pick1 (BitVec.ofNat 32 p.1) (BitVec.ofNat 32 p.2) (at' t b) = BitVec.ofBool (odd p.1 p.2 t) := by decide +kernel
  exact this _ h t b

theorem all8 (f : Fin 8 → Prop) : (∀ q, f q) ↔ f 0 ∧ f 1 ∧ f 2 ∧ f 3 ∧ f 4 ∧ f 5 ∧ f 6 ∧ f 7 :=
  ⟨fun h => ⟨h _, h _, h _, h _, h _, h _, h _, h _⟩, fun h q => by
    obtain ⟨h0, h1, h2, h3, h4, h5, h6, h7⟩ := h
    fin_cases q <;> assumption⟩

/-- Block `t` of the tree of eight holds the maxima over tile `t`'s blocks. -/
theorem tree8_le (p : Fin 8 → V) (r : Fin 128) (b : Fin 16) (t : Fin 8) (x : EReal) :
    tree8 (p 0) (p 1) (p 2) (p 3) (p 4) (p 5) (p 6) (p 7) (ix2 r (at' t b)) ≤ x ↔ ∀ q : Fin 8, p t (ix2 r (at' q b)) ≤ x := by
  show blk (tree8 _ _ _ _ _ _ _ _) r b t ≤ x ↔ ∀ q : Fin 8, blk (p t) r b q ≤ x
  have n1 : ∀ z0 z1 t, blk (node 1#32 1#32 16#32 z0 z1) r b t = _ := fun z0 z1 t => node_blk 1 1 1 (mask 1 1 (by simp)) z0 z1 r b t
  have n2 : ∀ z0 z1 t, blk (node 2#32 2#32 32#32 z0 z1) r b t = _ := fun z0 z1 t => node_blk 2 2 2 (mask 2 2 (by simp)) z0 z1 r b t
  have n3 : ∀ z0 z1 t, blk (node 3#32 2#32 32#32 z0 z1) r b t = _ := fun z0 z1 t => node_blk 3 2 2 (mask 3 2 (by simp)) z0 z1 r b t
  have m0 : ∀ z0 z1 t, blk (node 0#32 4#32 64#32 z0 z1) r b t = _ := fun z0 z1 t => node_blk 0 4 4 (mask 0 4 (by simp)) z0 z1 r b t
  have m1 : ∀ z0 z1 t, blk (node 1#32 4#32 64#32 z0 z1) r b t = _ := fun z0 z1 t => node_blk 1 4 4 (mask 1 4 (by simp)) z0 z1 r b t
  have m2 : ∀ z0 z1 t, blk (node 2#32 4#32 64#32 z0 z1) r b t = _ := fun z0 z1 t => node_blk 2 4 4 (mask 2 4 (by simp)) z0 z1 r b t
  have m3 : ∀ z0 z1 t, blk (node 3#32 4#32 64#32 z0 z1) r b t = _ := fun z0 z1 t => node_blk 3 4 4 (mask 3 4 (by simp)) z0 z1 r b t
  unfold tree8
  rw [n1]
  rw [all8]
  fin_cases t <;>
  · simp (decide := true) only [n2, n3, m0, m1, m2, m3, if_true, if_false, max_le_iff]
    simp only [Fin.reduceFinMk, Fin.isValue, Fin.reduceSub]
    constructor <;> (intro h; simp only [h, and_self])

/-- The same of the tree of three. -/
theorem tree3_le (p : Fin 3 → V) (r : Fin 128) (b : Fin 16) (t : Fin 3) (x : EReal) :
    tree3 (p 0) (p 1) (p 2) (ix2 r (at' (t.castLE (by decide)) b)) ≤ x ↔ ∀ q : Fin 8, p t (ix2 r (at' q b)) ≤ x := by
  show blk (tree3 _ _ _) r b (t.castLE (by decide)) ≤ x ↔ ∀ q : Fin 8, blk (p t) r b q ≤ x
  have n1 : ∀ z0 z1 t, blk (node 1#32 1#32 16#32 z0 z1) r b t = _ := fun z0 z1 t => node_blk 1 1 1 (mask 1 1 (by simp)) z0 z1 r b t
  have n3 : ∀ z0 z1 t, blk (node 3#32 2#32 32#32 z0 z1) r b t = _ := fun z0 z1 t => node_blk 3 2 2 (mask 3 2 (by simp)) z0 z1 r b t
  have s2 : ∀ z t, blk (single 32#32 z) r b t = _ := fun z t => single_blk 2 z r b t
  have s4 : ∀ z t, blk (single 64#32 z) r b t = _ := fun z t => single_blk 4 z r b t
  unfold tree3
  rw [n1]
  rw [all8]
  fin_cases t <;>
  · simp (decide := true) only [n3, s2, s4, if_true, if_false, max_le_iff]
    simp only [Fin.reduceFinMk, Fin.isValue, Fin.reduceSub]
    tauto

/-- The lane a lane's scale is taken from. -/
def lane1 (t : BitVec 32) (l : ℕ) : ℕ :=
  (Scalar.select (IntOp.cmpi .slt (IntOp.addi (fmod1 (BitVec.ofNat 32 l) 16#32) t) 0#32)
    (IntOp.addi (IntOp.addi (fmod1 (BitVec.ofNat 32 l) 16#32) t) 128#32) (IntOp.addi (fmod1 (BitVec.ofNat 32 l) 16#32) t)).toNat % 128

theorem lane1_eq (t q : Fin 8) (b : Fin 16) : lane1 (BitVec.ofNat 32 (16 * t)) (at' q b) = at' t b := by
  have : ∀ (t q : Fin 8) (b : Fin 16), lane1 (BitVec.ofNat 32 (16 * t)) (at' q b) = at' t b := by decide +kernel
  exact this t q b

/-- Every block takes block `t`'s entries. -/
theorem gat_blk (t : Fin 8) (x : V) (r : Fin 128) (q : Fin 8) (b : Fin 16) :
    gat (BitVec.ofNat 32 (16 * t)) x (ix2 r (at' q b)) = x (ix2 r (at' t b)) := by
  have e : ∀ (u : BitVec 32) (y : S128x128.Idx), gat u x y = x (ix2 (y 0) ⟨lane1 u (y 1), Nat.mod_lt _ (by decide)⟩) := by
    intro u y
    unfold gat
    pointwise
    refine congrArg x (congrArg (ix2 (y 0)) (Fin.ext ?_))
    simp only [fmod_apply]
    unfold lane lane1
    pointwise
    try rfl
  rw [e]
  refine congrArg x (congrArg (ix2 r) (Fin.ext ?_))
  exact lane1_eq t q b

end Cert.Blocks
-- ==== Proof.Half.lean ====
/- Half a tile's bytes: the codes and the signs of four rows share a word, and each byte read back is a code and its sign. -/
module

public import proofs.«01_k».proof.Proof.Code
public import proofs.«01_k».proof.Proof.Blocks
public import Idealize.ShloMosaic.Lib.BitcastFour
public import Idealize.ShloMosaic.Lib.BitcastPair

@[expose] public section

set_option maxRecDepth 16384

noncomputable section

namespace Cert.Half

open Cert.KernelIdeal Cert.KernelIdeal.Gen Idealize.ShloMosaic Idealize.ShloMosaic.TcCoe
open Cert.Tile

/-- A byte of the words read as bytes. -/
theorem unpack_bit (f : IVec S32x128 32) (p : Fin 128) (l : Fin 128) (q : ℕ) (hq : q < 8) :
    (bitcast S128x128 8 f bitcasts_S32x128_w32_S128x128_w8 (ix2 p l)).getLsbD q = (f (ix2 ⟨p / 4, by omega⟩ l)).getLsbD (8 * (p % 4) + q) := by
  rw [bitcast_getLsbD f _ _ q hq (by decide)]
  have hr : S128x128.row (ix2 p l) = p := rfl
  have e2 : (S128x128.row (ix2 p l) * 8 + q) % 32 = 8 * (p % 4) + q := by rw [hr]; omega
  rw [e2]
  congr 2
  funext c
  match c with
  | ⟨0, _⟩ => exact Fin.ext ((Shape.Bitcasts.srcIdx_row _ _ _ _ ⟨0, Nat.zero_lt_two⟩ rfl).trans (by rw [hr]; show (p.val * 8 + q) / 32 = p / 4; omega))
  | ⟨1, _⟩ => rfl

/-- A bit of four rows' word. -/
theorem pack_bit (x : IVec S128x128 8) (a : Fin 32) (l : Fin 128) (n : ℕ) (hn : n < 32) (p : Fin 128) (hp : p.val = 4 * a.val + n / 8) :
    (bitcast S32x128 32 x bitcasts_S128x128_w8_S32x128_w32 (ix2 a l)).getLsbD n = (x (ix2 p l)).getLsbD (n % 8) :=
  bitcast_8_32_getLsbD_ix2 x _ a l n hn p hp

/-- The byte of row `p`: its code moved up two bits, and its sign's top bit. -/
theorem merge_byte (i s : IVec S128x128 8) (hi : ∀ y, (i y).toNat < 8) (p l : Fin 128) (c : ℕ) (hc : c < 8) (hci : i (ix2 p l) = BitVec.ofNat 8 c)
    (b : Bool) (hs : s (ix2 p l) = if b then 128#8 else 0#8) :
    bitcast S128x128 8 (merge i s) bitcasts_S32x128_w32_S128x128_w8 (ix2 p l) = BitVec.ofNat 8 (4 * c + (if b then 128 else 0)) := by
  apply BitVec.eq_of_getLsbD_eq
  intro q hq
  rw [unpack_bit _ _ _ _ hq]
  have hm : (merge i s (ix2 ⟨p / 4, by omega⟩ l)).getLsbD (8 * (p % 4) + q) =
      (((decide (2 ≤ q)) && (i (ix2 p l)).getLsbD (q - 2)) || ((s (ix2 p l)).getLsbD q && decide (q = 7))) := by
    have e : merge i s (ix2 ⟨p / 4, by omega⟩ l) =
        (bitcast S32x128 32 i bitcasts_S128x128_w8_S32x128_w32 (ix2 ⟨p / 4, by omega⟩ l) <<< 2 |||
          bitcast S32x128 32 s bitcasts_S128x128_w8_S32x128_w32 (ix2 ⟨p / 4, by omega⟩ l) &&& 2155905152#32) := rfl
    have mask : (2155905152#32).getLsbD (8 * (p % 4) + q) = decide (q = 7) := by
      have : ∀ (a : Fin 4) (q : Fin 8), (2155905152#32).getLsbD (8 * a + q) = decide (q.val = 7) := by decide
      exact this ⟨p % 4, by omega⟩ ⟨q, hq⟩
    rw [e, BitVec.getLsbD_or, BitVec.getLsbD_and, mask, BitVec.getLsbD_shiftLeft,
      pack_bit s _ l (8 * (p % 4) + q) (by omega) p (by show p.val = 4 * (p / 4) + _; omega), show (8 * (p.val % 4) + q) % 8 = q by omega]
    congr 1
    by_cases h2 : 2 ≤ q
    · rw [pack_bit i _ l (8 * (p % 4) + q - 2) (by omega) p (by show p.val = 4 * (p / 4) + _; omega), show (8 * (p.val % 4) + q - 2) % 8 = q - 2 by omega]
      simp [h2]; omega
    · by_cases h0 : p.val % 4 = 0
      · simp [h0, h2]; omega
      · rw [pack_bit i _ l (8 * (p % 4) + q - 2) (by omega) ⟨p - 1, by omega⟩ (by show p.val - 1 = 4 * (p / 4) + _; omega),
          show (8 * (p.val % 4) + q - 2) % 8 = q + 6 by omega]
        have : (i (ix2 ⟨p - 1, by omega⟩ l)).getLsbD (q + 6) = false := by
          show (i (ix2 ⟨p - 1, by omega⟩ l)).toNat.testBit (q + 6) = false
          exact Nat.testBit_lt_two_pow (lt_of_lt_of_le (hi _) (by calc 8 = 2 ^ 3 := rfl
            _ ≤ _ := Nat.pow_le_pow_right (by norm_num) (by omega)))
        simp [this, h2]
  rw [hm, hci, hs]
  interval_cases c <;> cases b <;> interval_cases q <;> decide

end Cert.Half
-- ==== Proof.Entry.lean ====
/- Half a tile rounded and decoded, entry by entry. -/
module

public import proofs.«01_k».proof.Proof.Half
public import proofs.«01_k».proof.Proof.Scale

@[expose] public section

set_option maxRecDepth 16384

noncomputable section

namespace Cert.Entry

open Cert.KernelIdeal Cert.KernelIdeal.Gen Idealize.ShloMosaic Idealize.ShloMosaic.TcCoe
open Cert.Tile Cert.Blocks

theorem pow2_apply (e : I) (y : S128x128.Idx) : pow2 e y = Num.pow2 (e y) := rfl

theorem scaleG_apply (a : V) (e : I) (y : S128x128.Idx) : scaleG a e y = Num.SG (a y) (e y) := by
  have h : pow2 (subi (broadcast S128x128 0#32) e) y = Num.pow2 (IntOp.subi 0#32 (e y)) := rfl
  unfold scaleG cst Num.SG
  pointwise
  rw [h, pow2_apply]

theorem rinv_apply (a : V) (e : I) (y : S128x128.Idx) : rinv a e y = Ideal.div (Ideal.ofBits .f32 0x3AB504F3#32) (Num.SG (a y) (e y)) := by
  rw [← scaleG_apply]
  unfold rinv cst
  pointwise

theorem deq_apply (a : V) (e : I) (y : S128x128.Idx) : deq a e y = Num.SG (a y) (e y) * Ideal.ofBits .f32 0x42800000#32 := by
  rw [← scaleG_apply]
  unfold deq cst
  pointwise

theorem step_apply (v : V) (e : I) (k : BitVec 32) (y : S128x128.Idx) : step v e k y = Num.step (v y) (e y) k := rfl
theorem word_apply (v : V) (e : I) (y : S128x128.Idx) : word v e y = Num.word (v y) (e y) := rfl

/-- The words' sum narrowed to a byte. -/
def narrow (w : I) : IVec S128x128 8 :=
  trunci 8 (minsi (trunci 16 (shrui w (broadcast S128x128 22#32)) natLt_16_32) (broadcast S128x128 519#16)) natLt_8_16
theorem narrow_apply (w : I) (y : S128x128.Idx) :
    narrow w y = (IntOp.minsi ((IntOp.shrui .vector (w y) 22#32).setWidth 16) 519#16).setWidth 8 := rfl

theorem code_apply (m rn : V) (y : S128x128.Idx) : code m rn y = Num.code (m y) (rn y) := by
  have h : code m rn = narrow (addi
    (word (spread m) (step (spread m) (step (spread m) (broadcast S128x128 4294967289#32) 2#32) 1#32))
    (word (addf rn (cst 0x443FDFFF#32)) (broadcast S128x128 9#32))) := rfl
  have a : ∀ u v : I, addi u v y = IntOp.addi (u y) (v y) := fun _ _ => rfl
  have s : spread m y = min (m y + max (m y) (Ideal.ofBits .f32 0x3C000000#32)) (Ideal.ofBits .f32 0x3E000000#32) := rfl
  have r : addf rn (cst 0x443FDFFF#32) y = rn y + Ideal.ofBits .f32 0x443FDFFF#32 := rfl
  have c : ∀ k : BitVec 32, broadcast S128x128 k y = k := fun _ => rfl
  rw [h, narrow_apply, a, word_apply, word_apply, step_apply, step_apply, s, r, c, c]
  unfold Num.code
  rfl

theorem signByte_apply (sg : FVec Ideal S128x128 .fp8e5m2) (y : S128x128.Idx) :
    signByte sg y = if decide (sg y < 0) then 128#8 else 0#8 := by
  unfold signByte cst
  pointwise
  by_cases h : sg y < 0 <;> simp [h]

theorem dec_apply (f : IVec S32x128 32) (sc : FVec Ideal S128x128 .bf16) (y : S128x128.Idx) :
    dec f sc y = Ideal.ofBits .fp8e4m3 (bitcast S128x128 8 f bitcasts_S32x128_w32_S128x128_w8 y) * sc y := by
  unfold dec
  pointwise

theorem lane_split (l : Fin 128) : ∃ (q : Fin 8) (b : Fin 16), l = at' q b :=
  ⟨⟨l / 16, by omega⟩, ⟨l % 16, by omega⟩, Fin.ext (by simp only [at']; omega)⟩

theorem tile_split (y : S128x128.Idx) : ∃ (p : Fin 128) (q : Fin 8) (b : Fin 16), y = ix2 p (at' q b) := by
  obtain ⟨q, b, hl⟩ := lane_split (y 1)
  refine ⟨y 0, q, b, ?_⟩
  funext k
  fin_cases k
  · rfl
  · exact hl

/-- Half a tile decoded is each entry rounded in its block's scale. -/
theorem half_apply (x : S128x128.Idx → EReal) (a : V) (sg : FVec Ideal S128x128 .fp8e5m2) (r : IVec S128x256 8) (perm : FVec Ideal S256x256 .bf16) (o : ℕ)
    (ho : S128x256.Slices ![0, o] S128x128) (d : V) (e : I) (t : Fin 8) (E : ℤ) (hE : -126 ≤ E) (hE' : E ≤ 126) (he : ∀ y, e y = BitVec.ofInt 32 E)
    (ha : ∀ y, a y = max (x y) (-x y)) (hs : ∀ y, (sg y < 0 ↔ x y < 0)) (rr : S128x128.Idx → ℕ) (hrr : ∀ y, rr y < 256)
    (hr : ∀ y, extractStridedSlice S128x128 ![0, o] (rneg r perm) ho y = (((-(rr y : ℝ)) : ℝ) : EReal))
    (hd : ∀ p q b, max (x (ix2 p (at' q b))) (-x (ix2 p (at' q b))) ≤ d (ix2 p (at' t b))) (p : Fin 128) (q : Fin 8) (b : Fin 16) :
    half a sg r perm o ho d e (BitVec.ofNat 32 (16 * t)) (ix2 p (at' q b)) =
      Num.dq (x (ix2 p (at' q b))) (d (ix2 p (at' t b))) (rr (ix2 p (at' q b))) := by
  have hcode : ∀ (p : Fin 128) (q : Fin 8) (b : Fin 16), ∃ c : ℕ, c < 8 ∧
      code (mulf a (gat (BitVec.ofNat 32 (16 * t)) (rinv d e))) (extractStridedSlice S128x128 ![0, o] (rneg r perm) ho) (ix2 p (at' q b)) = BitVec.ofNat 8 c ∧
      Ideal.ofBits .fp8e4m3 (BitVec.ofNat 8 (4 * c + (if decide (x (ix2 p (at' q b)) < 0) then 128 else 0))) *
        (Num.SG (d (ix2 p (at' t b))) (BitVec.ofInt 32 E) * Ideal.ofBits .f32 0x42800000#32) =
        Num.dq (x (ix2 p (at' q b))) (d (ix2 p (at' t b))) (rr (ix2 p (at' q b))) := by
    intro p q b
    obtain ⟨c, hc, h1, h2⟩ := Num.kernel_entry _ _ _ (hrr (ix2 p (at' q b))) (hd p q b) E hE hE'
    refine ⟨c, hc, ?_, h2⟩
    rw [code_apply, hr, ← h1]
    refine congrArg₂ Num.code ?_ rfl
    show a _ * gat _ _ _ = _
    rw [gat_blk, rinv_apply, he, ha]
  have hi : ∀ y, (code (mulf a (gat (BitVec.ofNat 32 (16 * t)) (rinv d e))) (extractStridedSlice S128x128 ![0, o] (rneg r perm) ho) y).toNat < 8 := by
    intro y
    obtain ⟨p, q, b, rfl⟩ := tile_split y
    obtain ⟨c, hc, h1, -⟩ := hcode p q b
    rw [h1, BitVec.toNat_ofNat]
    omega
  obtain ⟨c, hc, h1, h2⟩ := hcode p q b
  unfold half
  rw [dec_apply, Half.merge_byte _ _ hi p _ c hc h1 (decide (x (ix2 p (at' q b)) < 0)) ?_, ← h2]
  · congr 1
    refine Eq.trans (b := gat (BitVec.ofNat 32 (16 * t)) (deq d e) (ix2 p (at' q b))) rfl ?_
    rw [gat_blk, deq_apply, he]
  · rw [signByte_apply]
    simp only [hs]

end Cert.Entry
-- ==== Proof.Group.lean ====
/- A group of tiles rounded and decoded: what the third scratch buffer holds, entry by entry. -/
module

public import proofs.«01_k».proof.Proof.Run
public import proofs.«01_k».proof.Proof.Entry
public import Idealize.ShloMosaic.Lib.Pipeline.CanonAppend

@[expose] public section

set_option maxRecDepth 16384

noncomputable section

namespace Cert.Group

open Cert.KernelIdeal Cert.KernelIdeal.Gen Idealize.ShloMosaic Idealize.ShloMosaic.TcCoe
open Cert.Tile Cert.Blocks Cert.Run

theorem inM (m t : ℕ) (h : m * t + m ≤ 2048) : ∀ a, (![0, m * t] : Fin 2 → ℕ) a + (⟨2, ![128, m]⟩ : Shape).size a ≤ S128x2048.size a := by
  intro a; fin_cases a
  · exact le_refl 128
  · exact h

/-- A piece `m` columns wide. -/
def pieceAt {e : EltTy} (m t : ℕ) (h : m * t + m ≤ 2048) (v : Vec Ideal ⟨2, ![128, m]⟩ e) : View.Piece (Elt Ideal) S128x2048 e :=
  ⟨Rect.unit (s := S128x2048) ![0, m * t] (⟨2, ![128, m]⟩ : Shape).size (inM m t h), v⟩

/-- Pieces stored one after another, over whatever came before, read back. -/
theorem pieces_apply {e : EltTy} {m n : ℕ} (hm : 0 < m) (hn : ∀ t : Fin n, m * t.val + m ≤ 2048) (ts : List (Fin n))
    (v : Fin n → Vec Ideal ⟨2, ![128, m]⟩ e) (L' : List (View.Piece (Elt Ideal) S128x2048 e)) (t : Fin n) (ht : t ∈ ts) (p : Fin 128) (c : Fin m)
    (hb : m * t.val + c.val < 2048) :
    View.canon (ts.map (fun t : Fin n => pieceAt (e := e) m t.val (hn t) (v t)) ++ L') (ix2 p ⟨m * t.val + c.val, hb⟩) = v t (ix2 p c) := by
  have hdiv : ∀ (s x : ℕ), x < m → (m * s + x) / m = s ∧ (m * s + x) % m = x := fun s x hx =>
    ⟨by rw [Nat.mul_add_div hm, Nat.div_eq_of_lt hx, Nat.add_zero], by rw [Nat.mul_add_mod, Nat.mod_eq_of_lt hx]⟩
  have key := View.canon_append_of_pieces (Val := Elt Ideal) (S := S128x2048) (e := e)
    (fun y => if h : (y 1).val / m < n then v ⟨(y 1).val / m, h⟩ (ix2 (y 0) ⟨(y 1).val % m, Nat.mod_lt _ hm⟩) else v t (ix2 p c)) L'
    (ts.map (fun t : Fin n => pieceAt (e := e) m t.val (hn t) (v t))) ?_ (ix2 p ⟨m * t.val + c.val, hb⟩) ?_
  · rw [key]
    obtain ⟨h1, h2⟩ := hdiv t c c.isLt
    refine (dif_pos (show (m * t.val + c.val) / m < n by rw [h1]; exact t.isLt)).trans ?_
    exact congr (congrArg v (Fin.ext h1)) (congrArg (ix2 p) (Fin.ext h2))
  · intro q hq x
    obtain ⟨s, hs, rfl⟩ := List.mem_map.mp hq
    have e1 : ((Rect.unit (s := S128x2048) ![0, m * s.val] (⟨2, ![128, m]⟩ : Shape).size (inM m s (hn s))).emb x 1).val = m * s.val + (x 1).val := by
      show m * s.val + 1 * (x 1).val = _
      rw [Nat.one_mul]
    have e0 : ((Rect.unit (s := S128x2048) ![0, m * s.val] (⟨2, ![128, m]⟩ : Shape).size (inM m s (hn s))).emb x 0).val = (x 0).val := by
      show 0 + 1 * (x 0).val = _
      rw [Nat.one_mul, Nat.zero_add]
    obtain ⟨h1, h2⟩ := hdiv s (x 1).val (x 1).isLt
    rw [← e1] at h1 h2
    refine Eq.symm ((dif_pos (lt_of_eq_of_lt h1 s.isLt)).trans ?_)
    refine congr (congrArg v (Fin.ext h1)) ?_
    funext a
    fin_cases a
    · exact Fin.ext e0
    · exact Fin.ext h2
  · refine ⟨_, List.mem_map.mpr ⟨t, ht, rfl⟩, ?_⟩
    refine (Rect.mem_set_unit (inb := inM m t (hn t))).mpr ?_
    intro a
    fin_cases a
    · exact ⟨Nat.zero_le _, by simpa [ix2] using p.isLt⟩
    · exact ⟨Nat.le_add_right _ _, Nat.add_lt_add_left c.isLt _⟩

theorem tiles_apply {e : EltTy} {n : ℕ} (hn : n ≤ 8) (ts : List (Fin n)) (v : Fin n → Vec Ideal S128x256 e)
    (L' : List (View.Piece (Elt Ideal) S128x2048 e)) (t : Fin n) (ht : t ∈ ts) (p : Fin 128) (c : Fin 256) (hb : 256 * t.val + c.val < 2048) :
    View.canon (ts.map (fun t => tileAt (e := e) (t.castLE hn) (v t)) ++ L') (ix2 p ⟨256 * t.val + c.val, hb⟩) = v t (ix2 p c) :=
  pieces_apply (by omega) (fun t => by omega) ts v L' t ht p c hb

theorem halves_apply {e : EltTy} {n : ℕ} (hn : n ≤ 16) (ts : List (Fin n)) (v : Fin n → Vec Ideal S128x128 e)
    (L' : List (View.Piece (Elt Ideal) S128x2048 e)) (t : Fin n) (ht : t ∈ ts) (p : Fin 128) (c : Fin 128) (hb : 128 * t.val + c.val < 2048) :
    View.canon (ts.map (fun t => halfAt (e := e) (t.castLE hn) (v t)) ++ L') (ix2 p ⟨128 * t.val + c.val, hb⟩) = v t (ix2 p c) :=
  pieces_apply (by omega) (fun t => by omega) ts v L' t ht p c hb

/-- A half tile's load reads the columns of its half. -/
theorem magHalf_apply (arg14 : Memref sig .tc .vmem S128x2048 .f32) (L : List (View.Piece (Elt Ideal) S128x2048 .f32)) (j : Fin 16) (p : Fin 128) (l : Fin 128) :
    magHalf arg14 L j (ix2 p l) = View.canon L (ix2 p ⟨128 * j + l, by omega⟩) := by
  unfold magHalf
  rw [View.readCov_eq_canon']
  refine congrArg (View.canon L) ?_
  funext a
  refine Fin.ext ?_
  fin_cases a
  · show 0 + 1 * p.val = p.val
    omega
  · show 128 * j.val + 1 * l.val = 128 * j + l
    omega

theorem sgnHalf_apply (arg15 : Memref sig .tc .vmem S128x2048 .fp8e5m2) (L : List (View.Piece (Elt Ideal) S128x2048 .fp8e5m2)) (j : Fin 16) (p : Fin 128) (l : Fin 128) :
    sgnHalf arg15 L j (ix2 p l) = View.canon L (ix2 p ⟨128 * j + l, by omega⟩) := by
  unfold sgnHalf
  rw [View.readCov_eq_canon']
  refine congrArg (View.canon L) ?_
  funext a
  refine Fin.ext ?_
  fin_cases a
  · show 0 + 1 * p.val = p.val
    omega
  · show 128 * j.val + 1 * l.val = 128 * j + l
    omega

theorem mag_apply (w : FVec Ideal S128x256 .bf16) (h : FVec Ideal S256x256 .bf16) (y : S128x256.Idx) :
    mag w h y = max (proj w h y) (-proj w h y) := by
  unfold mag
  pointwise
  rfl

theorem sgn_apply (w : FVec Ideal S128x256 .bf16) (h : FVec Ideal S256x256 .bf16) (y : S128x256.Idx) :
    sgn w h y < 0 ↔ proj w h y < 0 := by
  have : sgn w h y = if proj w h y < 0 then Ideal.ofBits .f32 3212836864#32 else 1 := by
    unfold sgn
    pointwise
  rw [this]
  split_ifs with h0
  · have : Ideal.ofBits .f32 3212836864#32 = ((-1 : ℝ) : EReal) := by
      simp [Ideal.ofBits, Ideal.ieee]
      exact_mod_cast (by norm_num : (8388608 : ℝ) * (2 ^ 23)⁻¹ = 1)
    simp only [h0, this, iff_true]
    exact_mod_cast (by norm_num : (-1 : ℝ) < 0)
  · simp [h0]

theorem halfMax_le (w : FVec Ideal S128x256 .bf16) (h : FVec Ideal S256x256 .bf16) (p l : Fin 128) (x : EReal) :
    halfMax w h (ix2 p l) ≤ x ↔ ∀ o : Fin 2, max (proj w h (ix2 p ⟨128 * o + l, by omega⟩)) (-proj w h (ix2 p ⟨128 * o + l, by omega⟩)) ≤ x := by
  have e : halfMax w h (ix2 p l) = max (max (proj w h (ix2 p ⟨l, by omega⟩)) (-proj w h (ix2 p ⟨l, by omega⟩)))
      (max (proj w h (ix2 p ⟨128 + l, by omega⟩)) (-proj w h (ix2 p ⟨128 + l, by omega⟩))) := by
    unfold halfMax
    pointwise
    rfl
  rw [e, max_le_iff, Fin.forall_fin_two]
  simp

/-- A group's decoded values: each rotated weight rounded in its block's scale. -/
theorem group_apply {n m : ℕ} (hn : n ≤ 8) (hm : m = 2 * n) (ts : List (Fin n)) (hts : ∀ t, t ∈ ts) (js : List (Fin m)) (hjs : ∀ j, j ∈ js)
    (arg14 : Memref sig .tc .vmem S128x2048 .f32) (arg15 : Memref sig .tc .vmem S128x2048 .fp8e5m2)
    (w : Fin n → FVec Ideal S128x256 .bf16) (h : Fin n → FVec Ideal S256x256 .bf16) (r : Fin n → IVec S128x256 8) (perm : FVec Ideal S256x256 .bf16) (M : V) (e : I)
    (L0 : List (View.Piece (Elt Ideal) S128x2048 .f32)) (L1 : List (View.Piece (Elt Ideal) S128x2048 .fp8e5m2)) (L2 : List (View.Piece (Elt Ideal) S128x2048 .bf16))
    (hM : ∀ p (b : Fin 16) (t : Fin n) (x : EReal), M (ix2 p (at' (t.castLE hn) b)) ≤ x ↔ ∀ q : Fin 8, halfMax (w t) (h t) (ix2 p (at' q b)) ≤ x)
    (E : ℤ) (hE : -126 ≤ E) (hE' : E ≤ 126) (he : ∀ y, e y = BitVec.ofInt 32 E)
    (rr : Fin n → S128x256.Idx → ℕ) (hrr : ∀ t y, rr t y < 256) (hr : ∀ t y, rneg (r t) perm y = (((-(rr t y : ℝ)) : ℝ) : EReal))
    (p : Fin 128) (t : Fin n) (o : Fin 2) (q : Fin 8) (b : Fin 16) (hb : 256 * t.val + (128 * o + (16 * q + b)) < 2048) :
    View.canon ((js.map fun j : Fin m => halfAt (e := .bf16) (j.castLE (by omega)) (half (magHalf arg14 (ts.map (fun t => tileAt (e := .f32) (t.castLE hn) (mag (w t) (h t))) ++ L0) (j.castLE (by omega)))
      (sgnHalf arg15 (ts.map (fun t => tileAt (e := .fp8e5m2) (t.castLE hn) (sgn (w t) (h t))) ++ L1) (j.castLE (by omega)))
      (r ⟨j.val / 2, by omega⟩) perm (128 * (j.val % 2)) (inSlice j) M e (BitVec.ofNat 32 (16 * (j.val / 2))))) ++ L2)
      (ix2 p ⟨256 * t.val + (128 * o + (16 * q + b)), hb⟩) =
    Num.dq (proj (w t) (h t) (ix2 p ⟨128 * o + (16 * q + b), by omega⟩)) (M (ix2 p (at' (t.castLE hn) b)))
      (rr t (ix2 p ⟨128 * o + (16 * q + b), by omega⟩)) := by
  have hj : 2 * t.val + o.val < m := by omega
  have hc : (⟨256 * t.val + (128 * o + (16 * q + b)), hb⟩ : Fin 2048) = ⟨128 * (⟨2 * t.val + o.val, hj⟩ : Fin m) + (at' q b : Fin 128).val, by simp only [at']; omega⟩ :=
    Fin.ext (by simp only [at']; omega)
  rw [hc, halves_apply (by omega) js _ L2 ⟨2 * t.val + o.val, hj⟩ (hjs _) p (at' q b)]
  have h2 : (2 * t.val + o.val) / 2 = t := by omega
  have h3 : (2 * t.val + o.val) % 2 = o := by omega
  simp only [h2, h3]
  have col : ∀ l : Fin 128, 128 * o.val + l.val < 256 := fun l => by omega
  have hcol : ∀ l : Fin 128, (⟨128 * (2 * t.val + o.val) + l, by omega⟩ : Fin 2048) = ⟨256 * t + (⟨128 * o + l, col l⟩ : Fin 256).val, by show 256 * t.val + (128 * o.val + l.val) < 2048; omega⟩ := by
    intro l
    refine Fin.ext ?_
    show 128 * (2 * t.val + o.val) + l.val = 256 * t.val + (128 * o.val + l.val)
    omega
  refine Entry.half_apply (fun y => proj (w t) (h t) (ix2 (y 0) ⟨128 * o + (y 1).val, col (y 1)⟩)) _ _ (r t) perm (128 * o) _ M e (t.castLE hn) E hE hE' he ?_ ?_
    (fun y => rr t (ix2 (y 0) ⟨128 * o + (y 1).val, col (y 1)⟩)) (fun y => hrr _ _) ?_ ?_ p q b
  · intro y
    obtain ⟨p, l, rfl⟩ : ∃ (p : Fin 128) (l : Fin 128), y = ix2 p l := ⟨y 0, y 1, by funext k; fin_cases k <;> rfl⟩
    rw [magHalf_apply]
    refine (congrArg (View.canon _) (congrArg (ix2 p) (hcol l))).trans ?_
    rw [tiles_apply hn ts (fun t => mag (w t) (h t)) L0 t (hts t) p ⟨128 * o + l, col l⟩, mag_apply]
    rfl
  · intro y
    obtain ⟨p, l, rfl⟩ : ∃ (p : Fin 128) (l : Fin 128), y = ix2 p l := ⟨y 0, y 1, by funext k; fin_cases k <;> rfl⟩
    rw [sgnHalf_apply]
    have hv := (congrArg (View.canon _) (congrArg (ix2 p) (hcol l))).trans
      (tiles_apply hn ts (fun t => sgn (w t) (h t)) L1 t (hts t) p ⟨128 * o + l, col l⟩ (by show 256 * t.val + (128 * o.val + l.val) < 2048; omega))
    exact (iff_of_eq (congrArg (· < 0) hv)).trans (sgn_apply _ _ _)
  · intro y
    obtain ⟨p, l, rfl⟩ : ∃ (p : Fin 128) (l : Fin 128), y = ix2 p l := ⟨y 0, y 1, by funext k; fin_cases k <;> rfl⟩
    rw [← hr]
    refine congrArg (rneg (r t) perm) ?_
    funext a
    refine Fin.ext ?_
    fin_cases a
    · show 0 + p.val = p.val
      omega
    · rfl
  · intro p q b
    refine le_trans ?_ (((hM p b t _).mp le_rfl) q)
    exact ((halfMax_le _ _ _ _ _).mp le_rfl) o

end Cert.Group
-- ==== Proof.Sums.lean ====
/- Sums over rows of columns cut into tiles, halves, steps and blocks. -/
module

public import Idealize.ShloMosaic.Lib.Pointwise

@[expose] public section

namespace Cert.Sums

/-- A sum over `m · n` places, by rows of `n`. -/
theorem sum_split {M : Type*} [AddCommMonoid M] (N m n : ℕ) (h : m * n = N) (f : Fin N → M) :
    ∑ k : Fin N, f k = ∑ a : Fin m, ∑ b : Fin n, f ⟨n * a + b, by
      subst h
      have : n * a.val + b.val < n * (a.val + 1) := by rw [Nat.mul_add]; omega
      exact this.trans_le (by rw [Nat.mul_comm]; exact Nat.mul_le_mul_right _ a.isLt)⟩ := by
  subst h
  rw [← Fintype.sum_prod_type']
  refine (Fintype.sum_equiv finProdFinEquiv _ _ fun x => ?_).symm
  congr 1
  refine Fin.ext ?_
  simp [finProdFinEquiv, Nat.add_comm]

/-- A tile's columns: half, step and block. -/
theorem sum_tile {M : Type*} [AddCommMonoid M] (f : Fin 256 → M) :
    ∑ c : Fin 256, f c = ∑ o : Fin 2, ∑ q : Fin 8, ∑ b : Fin 16, f ⟨128 * o.val + (16 * q.val + b.val), by omega⟩ := by
  rw [sum_split 256 2 128 rfl]
  refine Finset.sum_congr rfl fun o _ => ?_
  rw [sum_split 128 8 16 rfl (fun k => f ⟨128 * o.val + k.val, by omega⟩)]

/-- Five groups of eight tiles, and three more. -/
theorem sum_groups {M : Type*} [AddCommMonoid M] (f : Fin 43 → M) :
    ∑ τ : Fin 43, f τ = ((((∑ t : Fin 8, f ⟨8 * 0 + t, by omega⟩ + ∑ t : Fin 8, f ⟨8 * 1 + t, by omega⟩) + ∑ t : Fin 8, f ⟨8 * 2 + t, by omega⟩) +
      ∑ t : Fin 8, f ⟨8 * 3 + t, by omega⟩) + ∑ t : Fin 8, f ⟨8 * 4 + t, by omega⟩) + ∑ t : Fin 3, f ⟨40 + t, by omega⟩ := by
  rw [Fin.sum_univ_add (a := 40) (b := 3) f]
  refine congrArg₂ (· + ·) ?_ rfl
  rw [sum_split 40 5 8 rfl, Fin.sum_univ_five]
  rfl

end Cert.Sums
-- ==== Proof.DxSum.lean ====
/- The `dx` block as one sum over tiles, halves, steps and blocks of the rounded weights. -/
module

public import proofs.«01_k».proof.Proof.Dx
public import proofs.«01_k».proof.Proof.Group
public import proofs.«01_k».proof.Proof.Sums

@[expose] public section

set_option maxRecDepth 65536

noncomputable section

namespace Cert.DxSum

open Cert.KernelIdeal Cert.KernelIdeal.Gen Idealize.ShloMosaic Idealize.ShloMosaic.TcCoe Idealize.SL.Sem
open Cert.Tile Cert.Blocks Cert.Run

/-- The column of the weights' order that a tile's lane holds. -/
def lo (c : ℕ) : ℕ := c % 16 * 16 + (2 * (c % 128 / 16) + c / 128)

theorem lo_lt (c : Fin 256) : lo c < 256 := by unfold lo; omega

/-- A tile's rotated weight. -/
def S (x0 : Vec Ideal S128x11008 .bf16) (x2 : Vec Ideal S11008x256 .bf16) (p : Fin 128) (τ : Fin 43) (c : Fin 256) : EReal :=
  ∑ k : Fin 256, (x0 (ix2 p ⟨256 * τ.val + k.val, by omega⟩) : EReal) * x2 (ix2 ⟨256 * τ.val + k.val, by omega⟩ c)

/-- The largest magnitude of a block of rotated weights. -/
def D (x0 : Vec Ideal S128x11008 .bf16) (x2 : Vec Ideal S11008x256 .bf16) (p : Fin 128) (τ : Fin 43) (b : Fin 16) : EReal :=
  Finset.univ.sup fun z : Fin 2 × Fin 8 => max (S x0 x2 p τ ⟨128 * z.1.val + (16 * z.2.val + b.val), by omega⟩)
    (-S x0 x2 p τ ⟨128 * z.1.val + (16 * z.2.val + b.val), by omega⟩)

theorem D_le (x0 : Vec Ideal S128x11008 .bf16) (x2 : Vec Ideal S11008x256 .bf16) (p : Fin 128) (τ : Fin 43) (b : Fin 16) (x : EReal) :
    D x0 x2 p τ b ≤ x ↔ ∀ (q : Fin 8) (o : Fin 2), max (S x0 x2 p τ ⟨128 * o.val + (16 * q.val + b.val), by omega⟩)
      (-S x0 x2 p τ ⟨128 * o.val + (16 * q.val + b.val), by omega⟩) ≤ x := by
  unfold D
  rw [Finset.sup_le_iff]
  exact ⟨fun h q o => h (o, q) (Finset.mem_univ _), fun h z _ => h z.2 z.1⟩

/-- A rotated and rounded weight of a tile. -/
def Q (x0 : Vec Ideal S128x11008 .bf16) (x1 : Vec Ideal S128x11008 .i8) (x2 : Vec Ideal S11008x256 .bf16) (p : Fin 128) (τ : Fin 43) (o : Fin 2) (q : Fin 8) (b : Fin 16) : EReal :=
  Num.dq (S x0 x2 p τ ⟨128 * o.val + (16 * q.val + b.val), by omega⟩) (D x0 x2 p τ b)
    (x1 (ix2 p ⟨256 * τ.val + lo (128 * o.val + (16 * q.val + b.val)), by have := lo_lt ⟨128 * o.val + (16 * q.val + b.val), by omega⟩; simp only at this; omega⟩) : BitVec 8).toNat

/-- A rounded weight against the tile's activations. -/
def term (x0 : Vec Ideal S128x11008 .bf16) (x1 : Vec Ideal S128x11008 .i8) (x2 x3 : Vec Ideal S11008x256 .bf16) (p : Fin 128) (r : Fin 256) (τ : Fin 43) (o : Fin 2) (q : Fin 8) (b : Fin 16) : EReal :=
  Q x0 x1 x2 p τ o q b * x3 (ix2 ⟨256 * τ.val + (128 * o.val + (16 * q.val + b.val)), by omega⟩ r)

section groups

variable (c : Dev nD) (arg1 : Memref sig .tc .vmem S128x11008 .bf16) (harg1 : arg1.IsWhole)
  (arg2 : Memref sig .tc .vmem S128x11008 .i8) (harg2 : arg2.IsWhole)
  (arg3 : Memref sig .tc .vmem S11008x256 .bf16) (harg3 : arg3.IsWhole)
  (arg7 : Memref sig .tc .vmem S256x256 .bf16) (harg7 : arg7.IsWhole)
  (arg8 : Memref sig .tc .vmem S8x128 .f32) (harg8 : arg8.IsWhole)
  (arg14 : Memref sig .tc .vmem S128x2048 .f32) (arg15 : Memref sig .tc .vmem S128x2048 .fp8e5m2)
  (x0 : Vec Ideal S128x11008 .bf16) (x1 : Vec Ideal S128x11008 .i8) (x2 : Vec Ideal S11008x256 .bf16)
  (x6 : Vec Ideal S256x256 .bf16) (x7 : Vec Ideal S8x128 .f32)

theorem proj_apply (w : FVec Ideal S128x256 .bf16) (h : FVec Ideal S256x256 .bf16) (p : Fin 128) (l : Fin 256) :
    proj w h (ix2 p l) = ∑ k : Fin 256, (w (ix2 p k) : EReal) * h (ix2 k l) := by
  unfold proj
  pointwise

theorem wAt_apply (o m t : ℕ) (h : ∀ a, (![0, o] : Fin 2 → ℕ) a + (![128, m] : Fin 2 → ℕ) a ≤ S128x11008.size a)
    (h' : ∀ a, (![0, 256 * t] : Fin 2 → ℕ) a + S128x256.size a ≤ (![128, m] : Fin 2 → ℕ) a) (p : Fin 128) (l : Fin 256) (hb : o + 256 * t + l.val < 11008) :
    wAt arg1 harg1 x0 o m t h h' (ix2 p l) = x0 (ix2 p ⟨o + 256 * t + l.val, hb⟩) := by
  unfold wAt
  refine (congrFun (harg1.read_unread (Val := Elt Ideal) x0) _).trans (congrArg x0 ?_)
  funext a
  refine Fin.ext ?_
  fin_cases a
  · show 0 + 0 + 1 * p.val = p.val
    omega
  · show o + 256 * t + 1 * l.val = o + 256 * t + l.val
    omega

theorem rAt_apply (o m t : ℕ) (h : ∀ a, (![0, o] : Fin 2 → ℕ) a + (![128, m] : Fin 2 → ℕ) a ≤ S128x11008.size a)
    (h' : ∀ a, (![0, 256 * t] : Fin 2 → ℕ) a + S128x256.size a ≤ (![128, m] : Fin 2 → ℕ) a) (p : Fin 128) (l : Fin 256) (hb : o + 256 * t + l.val < 11008) :
    rAt arg2 harg2 x1 o m t h h' (ix2 p l) = x1 (ix2 p ⟨o + 256 * t + l.val, hb⟩) := by
  unfold rAt
  refine (congrFun (harg2.read_unread (Val := Elt Ideal) x1) _).trans (congrArg x1 ?_)
  funext a
  refine Fin.ext ?_
  fin_cases a
  · show 0 + 0 + 1 * p.val = p.val
    omega
  · show o + 256 * t + 1 * l.val = o + 256 * t + l.val
    omega

theorem hAt_apply (o t : ℕ) (h : ∀ a, (![o + 256 * t, 0] : Fin 2 → ℕ) a + S256x256.size a ≤ S11008x256.size a) (k l : Fin 256) (hb : o + 256 * t + k.val < 11008) :
    hAt arg3 harg3 x2 o t h (ix2 k l) = x2 (ix2 ⟨o + 256 * t + k.val, hb⟩ l) := by
  unfold hAt
  rw [View.readAt_eq_ld, harg3.read_unread]
  refine congrArg x2 ?_
  funext a
  refine Fin.ext ?_
  fin_cases a
  · show o + 256 * t + 1 * k.val = o + 256 * t + k.val
    omega
  · show 0 + 1 * l.val = l.val
    omega

theorem pAll_eq : pAll arg7 harg7 x6 = x6 := by
  funext y
  unfold pAll
  rw [View.readAt_eq_ld, harg7.read_unread]
  refine congrArg x6 ?_
  funext a
  refine Fin.ext ?_
  fin_cases a
  · show 0 + 1 * (y 0).val = (y 0).val
    omega
  · show 0 + 1 * (y 1).val = (y 1).val
    omega

theorem proj_S (o m t : ℕ) (h1) (h2) (h3) (τ : Fin 43) (hτ : 256 * τ.val = o + 256 * t) (p : Fin 128) (l : Fin 256) :
    proj (wAt arg1 harg1 x0 o m t h1 h2) (hAt arg3 harg3 x2 o t h3) (ix2 p l) = S x0 x2 p τ l := by
  rw [proj_apply]
  unfold S
  refine Finset.sum_congr rfl fun k _ => ?_
  rw [wAt_apply _ _ _ _ _ _ _ _ _ _ (by omega), hAt_apply _ _ _ _ _ _ _ _ (by omega)]
  simp only [hτ]

/-- The random bytes in lane order. -/
theorem rneg_apply (r : IVec S128x256 8) (perm : FVec Ideal S256x256 .bf16)
    (hp : ∀ i l : Fin 256, perm (ix2 i l) = if i.val = lo l.val then (((-1 : ℝ)) : EReal) else 0) (p : Fin 128) (l : Fin 256) :
    rneg r perm (ix2 p l) = (((-((r (ix2 p ⟨lo l, lo_lt l⟩)).toNat : ℝ)) : ℝ) : EReal) := by
  have e : rneg r perm (ix2 p l) = ∑ x : Fin 256, FloatOps.sitofp (F := Ideal) .f32 (BitVec.setWidth 32 (r (ix2 p x))) * perm (ix2 x l) := by
    unfold rneg
    pointwise
  rw [e, Finset.sum_eq_single ⟨lo l, lo_lt l⟩]
  · rw [hp, if_pos rfl]
    show (((BitVec.setWidth 32 (r (ix2 p ⟨lo l, lo_lt l⟩))).toInt : ℝ) : EReal) * _ = _
    have hi : (BitVec.setWidth 32 (r (ix2 p ⟨lo l, lo_lt l⟩))).toInt = ((r (ix2 p ⟨lo l, lo_lt l⟩)).toNat : ℤ) := by
      rw [BitVec.toInt_eq_toNat_of_lt (by rw [BitVec.toNat_setWidth]; omega), BitVec.toNat_setWidth]
      omega
    rw [← EReal.coe_mul, hi]
    norm_num
  · intro i _ hi
    rw [hp, if_neg (fun h => hi (Fin.ext h)), mul_zero]
  · exact fun h => absurd (Finset.mem_univ _) h

variable (hp : ∀ i l : Fin 256, x6 (ix2 i l) = if i.val = lo l.val then (((-1 : ℝ)) : EReal) else 0)
  (E : ℤ) (hE : -126 ≤ E) (hE' : E ≤ 126) (he : ∀ y, exp c arg8 harg8 x7 y = BitVec.ofInt 32 E)

include hp hE hE' he in
/-- A full group's decoded values. -/
theorem full_apply (g : Fin 5) (L0 : List (View.Piece (Elt Ideal) S128x2048 .f32)) (L1 : List (View.Piece (Elt Ideal) S128x2048 .fp8e5m2)) (L2 : List (View.Piece (Elt Ideal) S128x2048 .bf16))
    (p : Fin 128) (t : Fin 8) (o : Fin 2) (q : Fin 8) (b : Fin 16) :
    View.canon (decG c arg1 harg1 arg2 harg2 arg3 harg3 arg7 harg7 arg8 harg8 arg14 arg15 x0 x1 x2 x6 x7 g (magG arg1 harg1 arg3 harg3 x0 x2 g ++ L0) (sgnG arg1 harg1 arg3 harg3 x0 x2 g ++ L1) ++ L2)
      (ix2 p ⟨256 * t.val + (128 * o.val + (16 * q.val + b.val)), by omega⟩) = Q x0 x1 x2 p ⟨8 * g.val + t.val, by omega⟩ o q b := by
  have hS : ∀ (t : Fin 8) p l, proj (W arg1 harg1 x0 g t) (H arg3 harg3 x2 g t) (ix2 p l) = S x0 x2 p ⟨8 * g.val + t.val, by omega⟩ l :=
    fun t p l => proj_S arg1 harg1 arg3 harg3 x0 x2 _ _ _ _ _ _ _ (by show 256 * (8 * g.val + t.val) = 2048 * g.val + 256 * t.val; omega) p l
  have hM : ∀ p (b : Fin 16) (t : Fin 8) (x : EReal), maxG arg1 harg1 arg3 harg3 x0 x2 g (ix2 p (at' t b)) ≤ x ↔
      ∀ q : Fin 8, halfMax (W arg1 harg1 x0 g t) (H arg3 harg3 x2 g t) (ix2 p (at' q b)) ≤ x := fun p b t x =>
    tree8_le (fun t => halfMax (W arg1 harg1 x0 g t) (H arg3 harg3 x2 g t)) p b t x
  refine (Group.group_apply (n := 8) (m := 16) le_rfl rfl eights (by decide) sixteens (by decide) arg14 arg15 (W arg1 harg1 x0 g) (H arg3 harg3 x2 g) (R arg2 harg2 x1 g)
    (pAll arg7 harg7 x6) (maxG arg1 harg1 arg3 harg3 x0 x2 g) (exp c arg8 harg8 x7) L0 L1 L2 hM E hE hE' he
    (fun t y => (R arg2 harg2 x1 g t (ix2 (y 0) ⟨lo (y 1), lo_lt (y 1)⟩)).toNat) (fun t y => by omega) ?_ p t o q b (by omega)).trans ?_
  · intro t y
    obtain ⟨p, l, rfl⟩ : ∃ (p : Fin 128) (l : Fin 256), y = ix2 p l := ⟨y 0, y 1, by funext k; fin_cases k <;> rfl⟩
    rw [pAll_eq]
    exact rneg_apply _ _ hp p l
  · unfold Q
    congr 1
    · exact hS _ _ _
    · refine eq_of_forall_ge_iff fun x => ?_
      refine (hM p b t x).trans ?_
      rw [D_le]
      refine forall_congr' fun q => ?_
      rw [Group.halfMax_le]
      refine forall_congr' fun o => ?_
      simp only [hS, at']
    · refine congrArg BitVec.toNat ?_
      refine (rAt_apply _ _ _ _ _ _ _ _ _ _ (by have := lo_lt ⟨128 * o.val + (16 * q.val + b.val), by omega⟩; simp only at this; simp only [ix2]; omega)).trans ?_
      refine congrArg x1 (congrArg (ix2 p) (Fin.ext ?_))
      show 2048 * g.val + 256 * t.val + lo _ = 256 * (8 * g.val + t.val) + lo _
      simp only [ix2]
      show _ + lo (128 * o.val + (16 * q.val + b.val)) = _
      omega

include hp hE hE' he in
/-- The last group's decoded values. -/
theorem last_apply (L0 : List (View.Piece (Elt Ideal) S128x2048 .f32)) (L1 : List (View.Piece (Elt Ideal) S128x2048 .fp8e5m2)) (L2 : List (View.Piece (Elt Ideal) S128x2048 .bf16))
    (p : Fin 128) (t : Fin 3) (o : Fin 2) (q : Fin 8) (b : Fin 16) :
    View.canon (decL c arg1 harg1 arg2 harg2 arg3 harg3 arg7 harg7 arg8 harg8 arg14 arg15 x0 x1 x2 x6 x7 (magL arg1 harg1 arg3 harg3 x0 x2 ++ L0) (sgnL arg1 harg1 arg3 harg3 x0 x2 ++ L1) ++ L2)
      (ix2 p ⟨256 * t.val + (128 * o.val + (16 * q.val + b.val)), by omega⟩) = Q x0 x1 x2 p ⟨40 + t.val, by omega⟩ o q b := by
  have hS : ∀ (t : Fin 3) p l, proj (W' arg1 harg1 x0 t) (H' arg3 harg3 x2 t) (ix2 p l) = S x0 x2 p ⟨40 + t.val, by omega⟩ l :=
    fun t p l => proj_S arg1 harg1 arg3 harg3 x0 x2 _ _ _ _ _ _ _ (by show 256 * (40 + t.val) = 10240 + 256 * t.val; omega) p l
  have hM : ∀ p (b : Fin 16) (t : Fin 3) (x : EReal), maxL arg1 harg1 arg3 harg3 x0 x2 (ix2 p (at' (t.castLE (by omega)) b)) ≤ x ↔
      ∀ q : Fin 8, halfMax (W' arg1 harg1 x0 t) (H' arg3 harg3 x2 t) (ix2 p (at' q b)) ≤ x := fun p b t x =>
    tree3_le (fun t => halfMax (W' arg1 harg1 x0 t) (H' arg3 harg3 x2 t)) p b t x
  refine (Group.group_apply (n := 3) (m := 6) (by omega) rfl threes (by decide) sixes (by decide) arg14 arg15 (W' arg1 harg1 x0) (H' arg3 harg3 x2) (R' arg2 harg2 x1)
    (pAll arg7 harg7 x6) (maxL arg1 harg1 arg3 harg3 x0 x2) (exp c arg8 harg8 x7) L0 L1 L2 hM E hE hE' he
    (fun t y => (R' arg2 harg2 x1 t (ix2 (y 0) ⟨lo (y 1), lo_lt (y 1)⟩)).toNat) (fun t y => by omega) ?_ p t o q b (by omega)).trans ?_
  · intro t y
    obtain ⟨p, l, rfl⟩ : ∃ (p : Fin 128) (l : Fin 256), y = ix2 p l := ⟨y 0, y 1, by funext k; fin_cases k <;> rfl⟩
    rw [pAll_eq]
    exact rneg_apply _ _ hp p l
  · unfold Q
    congr 1
    · exact hS _ _ _
    · refine eq_of_forall_ge_iff fun x => ?_
      refine (hM p b t x).trans ?_
      rw [D_le]
      refine forall_congr' fun q => ?_
      rw [Group.halfMax_le]
      refine forall_congr' fun o => ?_
      simp only [hS, at']
    · refine congrArg BitVec.toNat ?_
      refine (rAt_apply _ _ _ _ _ _ _ _ _ _ (by have := lo_lt ⟨128 * o.val + (16 * q.val + b.val), by omega⟩; simp only at this; simp only [ix2]; omega)).trans ?_
      refine congrArg x1 (congrArg (ix2 p) (Fin.ext ?_))
      show 10240 + 256 * t.val + lo _ = 256 * (40 + t.val) + lo _
      simp only [ix2]
      show _ + lo (128 * o.val + (16 * q.val + b.val)) = _
      omega

include hp hE hE' he in
theorem full_sum (x3 : Vec Ideal S11008x256 .bf16) (g : Fin 5) (L0 : List (View.Piece (Elt Ideal) S128x2048 .f32)) (L1 : List (View.Piece (Elt Ideal) S128x2048 .fp8e5m2)) (L2 : List (View.Piece (Elt Ideal) S128x2048 .bf16))
    (p : Fin 128) (r : Fin 256) (O : ℕ) (hO : O = 2048 * g.val) (hb : ∀ k : Fin 2048, O + k.val < 11008) :
    ∑ k : Fin 2048, View.canon (decG c arg1 harg1 arg2 harg2 arg3 harg3 arg7 harg7 arg8 harg8 arg14 arg15 x0 x1 x2 x6 x7 g (magG arg1 harg1 arg3 harg3 x0 x2 g ++ L0) (sgnG arg1 harg1 arg3 harg3 x0 x2 g ++ L1) ++ L2)
      (ix2 p (k.castLE (by decide))) * x3 (ix2 ⟨O + k.val, hb k⟩ r) =
    ∑ t : Fin 8, ∑ o : Fin 2, ∑ q : Fin 8, ∑ b : Fin 16, term x0 x1 x2 x3 p r ⟨8 * g.val + t.val, by omega⟩ o q b := by
  rw [Sums.sum_split 2048 8 256 rfl]
  refine Finset.sum_congr rfl fun t _ => ?_
  rw [Sums.sum_tile]
  refine Finset.sum_congr rfl fun o _ => Finset.sum_congr rfl fun q _ => Finset.sum_congr rfl fun b _ => ?_
  unfold term
  refine congrArg₂ (· * ·) (full_apply c arg1 harg1 arg2 harg2 arg3 harg3 arg7 harg7 arg8 harg8 arg14 arg15 x0 x1 x2 x6 x7 hp E hE hE' he g L0 L1 L2 p t o q b) (congrArg x3 ?_)
  refine congrArg (fun z => ix2 z r) (Fin.ext ?_)
  show O + (256 * t.val + (128 * o.val + (16 * q.val + b.val))) = 256 * (8 * g.val + t.val) + (128 * o.val + (16 * q.val + b.val))
  omega

include hp hE hE' he in
theorem last_sum (x3 : Vec Ideal S11008x256 .bf16) (L0 : List (View.Piece (Elt Ideal) S128x2048 .f32)) (L1 : List (View.Piece (Elt Ideal) S128x2048 .fp8e5m2)) (L2 : List (View.Piece (Elt Ideal) S128x2048 .bf16))
    (p : Fin 128) (r : Fin 256) (hb : ∀ k : Fin 768, 10240 + k.val < 11008) :
    ∑ k : Fin 768, View.canon (decL c arg1 harg1 arg2 harg2 arg3 harg3 arg7 harg7 arg8 harg8 arg14 arg15 x0 x1 x2 x6 x7 (magL arg1 harg1 arg3 harg3 x0 x2 ++ L0) (sgnL arg1 harg1 arg3 harg3 x0 x2 ++ L1) ++ L2)
      (ix2 p (k.castLE (by decide))) * x3 (ix2 ⟨10240 + k.val, hb k⟩ r) =
    ∑ t : Fin 3, ∑ o : Fin 2, ∑ q : Fin 8, ∑ b : Fin 16, term x0 x1 x2 x3 p r ⟨40 + t.val, by omega⟩ o q b := by
  rw [Sums.sum_split 768 3 256 rfl]
  refine Finset.sum_congr rfl fun t _ => ?_
  rw [Sums.sum_tile]
  refine Finset.sum_congr rfl fun o _ => Finset.sum_congr rfl fun q _ => Finset.sum_congr rfl fun b _ => ?_
  unfold term
  refine congrArg₂ (· * ·) (last_apply c arg1 harg1 arg2 harg2 arg3 harg3 arg7 harg7 arg8 harg8 arg14 arg15 x0 x1 x2 x6 x7 hp E hE hE' he L0 L1 L2 p t o q b) (congrArg x3 ?_)
  refine congrArg (fun z => ix2 z r) (Fin.ext ?_)
  show 10240 + (256 * t.val + (128 * o.val + (16 * q.val + b.val))) = 256 * (40 + t.val) + (128 * o.val + (16 * q.val + b.val))
  omega

end groups

/-- The `dx` block. -/
theorem dx_sum (c : Dev nD) (i : grid0.Coords) (arg1 : Memref sig .tc .vmem S128x11008 .bf16) (harg1 : arg1.IsWhole) (arg2 : Memref sig .tc .vmem S128x11008 .i8) (harg2 : arg2.IsWhole) (arg3 : Memref sig .tc .vmem S11008x256 .bf16) (harg3 : arg3.IsWhole) (arg4 : Memref sig .tc .vmem S11008x256 .bf16) (harg4 : arg4.IsWhole) (arg5 : Memref sig .tc .vmem S256x11008 .bf16) (harg5 : arg5.IsWhole) (arg6 : Memref sig .tc .vmem S128x256 .bf16) (harg6 : arg6.IsWhole) (arg7 : Memref sig .tc .vmem S256x256 .bf16) (harg7 : arg7.IsWhole) (arg8 : Memref sig .tc .vmem S8x128 .f32) (harg8 : arg8.IsWhole) (arg9 : Memref sig .tc .vmem S128x5504 .i8) (harg9 : arg9.IsWhole) (arg10 : Memref sig .tc .vmem S128x688 .fp8e4m3) (harg10 : arg10.IsWhole) (arg11 : Memref sig .tc .vmem S8x128 .f32) (harg11 : arg11.IsWhole) (arg12 : Memref sig .tc .vmem S256x128 .bf16) (harg12 : arg12.IsWhole) (arg13 : Memref sig .tc .vmem S128x11008 .f32) (harg13 : arg13.IsWhole) (arg14 : Memref sig .tc .vmem S128x2048 .f32) (harg14 : arg14.IsWhole) (arg15 : Memref sig .tc .vmem S128x2048 .fp8e5m2) (harg15 : arg15.IsWhole) (arg16 : Memref sig .tc .vmem S128x2048 .bf16) (harg16 : arg16.IsWhole)
    (x0 : Vec Ideal S128x11008 .bf16) (x1 : Vec Ideal S128x11008 .i8) (x2 : Vec Ideal S11008x256 .bf16) (x3 : Vec Ideal S11008x256 .bf16) (x4 : Vec Ideal S256x11008 .bf16) (x5 : Vec Ideal S128x256 .bf16) (x6 : Vec Ideal S256x256 .bf16) (x7 : Vec Ideal S8x128 .f32) (y : S256x128.Idx)
    (hp : ∀ i l : Fin 256, x6 (ix2 i l) = if i.val = lo l.val then (((-1 : ℝ)) : EReal) else 0)
    (E : ℤ) (hE : -126 ≤ E) (hE' : E ≤ 126) (he : ∀ y, exp c arg8 harg8 x7 y = BitVec.ofInt 32 E) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y =
      ∑ τ : Fin 43, ∑ o : Fin 2, ∑ q : Fin 8, ∑ b : Fin 16, term x0 x1 x2 x3 (y 1) (y 0) τ o q b := by
  have hf := fun g L0 L1 L2 O hO hb => full_sum c arg1 harg1 arg2 harg2 arg3 harg3 arg7 harg7 arg8 harg8 arg14 arg15 x0 x1 x2 x6 x7 hp E hE hE' he x3 g L0 L1 L2 (y 1) (y 0) O hO hb
  have hl := fun L0 L1 L2 hb => last_sum c arg1 harg1 arg2 harg2 arg3 harg3 arg7 harg7 arg8 harg8 arg14 arg15 x0 x1 x2 x6 x7 hp E hE hE' he x3 L0 L1 L2 (y 1) (y 0) hb
  rw [Dx.dx_apply, Sums.sum_groups]
  rw [dec5, mag5, sgn5, hl]
  rw [dec4, mag4, sgn4, hf 4 _ _ _ 8192 rfl]
  rw [dec3, mag3, sgn3, hf 3 _ _ _ 6144 rfl]
  rw [dec2, mag2, sgn2, hf 2 _ _ _ 4096 rfl]
  rw [dec1, mag1, sgn1, hf 1 _ _ _ 2048 rfl]
  rw [dec0, mag0, sgn0, hf 0 _ _ _ 0 rfl]
  rfl

end Cert.DxSum
-- ==== Proof.RefSum.lean ====
/- The reference's first result, as the kernel's sum over tiles, halves, steps and blocks. -/
module

public import proofs.«01_k».proof.Proof.Ref
public import proofs.«01_k».proof.Proof.DxSum

@[expose] public section

set_option maxRecDepth 16384

noncomputable section

namespace Cert.RefSum

open Idealize.ShloMosaic Idealize.SL.Sem
open Cert.KernelIdeal (S128x11008 S11008x256)
open Cert.DxSum

/-- An entry of the rotation, its columns in a tile's order. -/
def hv (i c : ℕ) : EReal :=
  if i / 32 = lo c / 32 then (if Lit.par (i % 32) (lo c % 32) then ((-1 : ℝ) : EReal) else ((1 : ℝ) : EReal)) else 0

theorem mul_sum_real {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem lit_ncH : Ideal.ofBits .f32 0xBE3504F3#32 = ((-Num.cH : ℝ) : EReal) := by
  rw [Num.ofBits_f32]; unfold Ideal.ieee Num.cH
  have a : ((0xBE3504F3#32).extractLsb' 23 8).toNat = 124 := by decide
  have b : ((0xBE3504F3#32).extractLsb' 0 23).toNat = 3474675 := by decide
  have c : ((0xBE3504F3#32).extractLsb' (8 + 23) 1 == 1#1) = true := by decide
  simp only [a, b, c]
  norm_num

theorem lo_eq (o : Fin 2) (q : Fin 8) (b : Fin 16) : lo (128 * o.val + (16 * q.val + b.val)) = 16 * b.val + (2 * q.val + o.val) := by
  unfold lo; omega

section

variable (V0 : Ref.Val0) (x0 : Vec Ideal S128x11008 .bf16) (x1 : Vec Ideal S128x11008 .i8) (x2 x3 : Vec Ideal S11008x256 .bf16)
  (p : Fin 128) (k : Fin 4096) (t : Fin 256)

theorem rv_eq (h0 : ∀ n : Fin 11008, @Eq EReal (x0 (ix2 p n)) (Ref.W V0 (ix2 k n)))
    (h2 : ∀ (n : Fin 11008) (c : Fin 256), @Eq EReal (x2 (ix2 n c)) (hv (n.val % 256) c.val * Ref.SG V0 (ix1 n)))
    (τ : Fin 43) (o : Fin 2) (q : Fin 8) (b : Fin 16) :
    Ref.rv V0 k ⟨16 * τ.val + b.val, by omega⟩ ⟨2 * q.val + o.val, by omega⟩
      = Ideal.ofBits .f32 0x3E3504F3#32 * S x0 x2 p τ ⟨128 * o.val + (16 * q.val + b.val), by omega⟩ := by
  rw [Ref.rv_apply]
  unfold S
  rw [Sums.sum_split 256 8 32 rfl, Finset.sum_eq_single (⟨b.val / 2, by omega⟩ : Fin 8)]
  · rw [Num.lit_cH, lit_ncH, mul_sum_real _ Num.cH_pos.le]
    refine Finset.sum_congr rfl fun x _ => ?_
    rw [h0, h2]
    have e : (⟨256 * τ.val + (32 * (b.val / 2) + x.val), by omega⟩ : Fin 11008) = ⟨(16 * τ.val + b.val) / 2 * 32 + x.val, by omega⟩ :=
      Fin.ext (by show 256 * τ.val + (32 * (b.val / 2) + x.val) = (16 * τ.val + b.val) / 2 * 32 + x.val; omega)
    simp only [e]
    generalize Ref.W V0 _ = w
    generalize Ref.SG V0 _ = s
    have hh : hv ((256 * τ.val + (32 * (b.val / 2) + x.val)) % 256) (128 * o.val + (16 * q.val + b.val))
        = if Lit.par x.val ((16 * τ.val + b.val) % 2 * 16 + (2 * q.val + o.val)) then ((-1 : ℝ) : EReal) else ((1 : ℝ) : EReal) := by
      unfold hv
      rw [lo_eq, if_pos (by omega)]
      rw [show (256 * τ.val + (32 * (b.val / 2) + x.val)) % 256 % 32 = x.val by omega,
        show (16 * b.val + (2 * q.val + o.val)) % 32 = (16 * τ.val + b.val) % 2 * 16 + (2 * q.val + o.val) by omega]
    rw [hh]
    split
    · rw [show ((-Num.cH : ℝ) : EReal) = (Num.cH : EReal) * ((-1 : ℝ) : EReal) by rw [← EReal.coe_mul]; norm_num]
      ac_rfl
    · rw [show ((1 : ℝ) : EReal) = 1 from rfl, one_mul]
      ac_rfl
  · intro a _ ha
    refine Finset.sum_eq_zero fun x _ => ?_
    rw [h2]
    have hh : hv ((256 * τ.val + (32 * a.val + x.val)) % 256) (128 * o.val + (16 * q.val + b.val)) = 0 := by
      unfold hv
      have : a.val ≠ b.val / 2 := fun h => ha (Fin.ext h)
      rw [lo_eq, if_neg (by omega)]
    rw [hh, zero_mul, mul_zero]
  · intro h; exact absurd (Finset.mem_univ _) h

theorem abs_mul (c : ℝ) (hc : 0 ≤ c) (s : EReal) : max ((c : EReal) * s) (-((c : EReal) * s)) = (c : EReal) * max s (-s) := by
  have mono : Monotone fun x : EReal => (c : EReal) * x := fun a b h => mul_le_mul_of_nonneg_left h (by exact_mod_cast hc)
  rw [← mul_neg]
  exact (mono.map_max (a := s) (b := -s)).symm

theorem ra_eq (h0 : ∀ n : Fin 11008, @Eq EReal (x0 (ix2 p n)) (Ref.W V0 (ix2 k n)))
    (h2 : ∀ (n : Fin 11008) (c : Fin 256), @Eq EReal (x2 (ix2 n c)) (hv (n.val % 256) c.val * Ref.SG V0 (ix1 n)))
    (τ : Fin 43) (b : Fin 16) : Ref.ra V0 k ⟨16 * τ.val + b.val, by omega⟩ = Ideal.ofBits .f32 0x3E3504F3#32 * D x0 x2 p τ b := by
  refine eq_of_forall_ge_iff fun t => ?_
  rw [Ref.v57_apply]
  have mono : ∀ a b : EReal, a ≤ b → (Num.cH : EReal) * a ≤ (Num.cH : EReal) * b := fun a b h =>
    mul_le_mul_of_nonneg_left h (by exact_mod_cast Num.cH_pos.le)
  have hz : ∀ z : Fin 2 × Fin 8, max (Ref.rv V0 k ⟨16 * τ.val + b.val, by omega⟩ ⟨2 * z.2.val + z.1.val, by omega⟩)
      (-Ref.rv V0 k ⟨16 * τ.val + b.val, by omega⟩ ⟨2 * z.2.val + z.1.val, by omega⟩)
      = (Num.cH : EReal) * max (S x0 x2 p τ ⟨128 * z.1.val + (16 * z.2.val + b.val), by omega⟩) (-S x0 x2 p τ ⟨128 * z.1.val + (16 * z.2.val + b.val), by omega⟩) := by
    intro z
    rw [rv_eq V0 x0 x2 p k h0 h2 τ z.1 z.2 b, Num.lit_cH, abs_mul _ Num.cH_pos.le]
  rw [Num.lit_cH]
  constructor
  · intro h
    obtain ⟨z, _, e⟩ := Finset.exists_mem_eq_sup (Finset.univ : Finset (Fin 2 × Fin 8)) ⟨(0, 0), Finset.mem_univ _⟩
      (fun z => max (S x0 x2 p τ ⟨128 * z.1.val + (16 * z.2.val + b.val), by omega⟩) (-S x0 x2 p τ ⟨128 * z.1.val + (16 * z.2.val + b.val), by omega⟩))
    unfold D
    rw [e, ← hz z]
    exact h _
  · intro h e
    have hD := (D_le x0 x2 p τ b _).1 le_rfl ⟨e.val / 2, by omega⟩ ⟨e.val % 2, by omega⟩
    have hE : (⟨2 * (e.val / 2) + e.val % 2, by omega⟩ : Fin 16) = e := Fin.ext (by show 2 * (e.val / 2) + e.val % 2 = e.val; omega)
    have he := hz (⟨e.val % 2, by omega⟩, ⟨e.val / 2, by omega⟩)
    simp only [hE] at he
    rw [he]
    exact (mono _ _ hD).trans h

theorem entry_eq (h0 : ∀ n : Fin 11008, @Eq EReal (x0 (ix2 p n)) (Ref.W V0 (ix2 k n)))
    (h1 : ∀ n : Fin 11008, @Eq (BitVec 8) (x1 (ix2 p n)) (Ref.R1 V0 (ix2 k n)))
    (h2 : ∀ (n : Fin 11008) (c : Fin 256), @Eq EReal (x2 (ix2 n c)) (hv (n.val % 256) c.val * Ref.SG V0 (ix1 n)))
    (h3 : ∀ n : Fin 11008, @Eq EReal (x3 (ix2 n t)) (Ref.DY V0 (ix2 n t)))
    (τ : Fin 43) (o : Fin 2) (q : Fin 8) (b : Fin 16) (x : Fin 11008) (hx : x.val = 256 * τ.val + (16 * b.val + (2 * q.val + o.val))) :
    Ref.DY V0 (ix2 ⟨x.val / 256 * 256 + x.val % 2 * 128 + x.val / 2 % 8 * 16 + x.val / 16 % 16, by omega⟩ t) *
      Num.rw_ (Ref.rv V0 k ⟨x.val / 16, by omega⟩ ⟨x.val % 16, by omega⟩) (Ref.ra V0 k ⟨x.val / 16, by omega⟩) (Ref.g V0)
        (((Ref.R1 V0 (ix2 k x)).toNat : ℝ) : EReal) = term x0 x1 x2 x3 p t τ o q b := by
  have e0 : (⟨x.val / 256 * 256 + x.val % 2 * 128 + x.val / 2 % 8 * 16 + x.val / 16 % 16, by omega⟩ : Fin 11008)
      = ⟨256 * τ.val + (128 * o.val + (16 * q.val + b.val)), by omega⟩ :=
    Fin.ext (by show x.val / 256 * 256 + x.val % 2 * 128 + x.val / 2 % 8 * 16 + x.val / 16 % 16 = 256 * τ.val + (128 * o.val + (16 * q.val + b.val)); omega)
  have e1 : (⟨x.val / 16, by omega⟩ : Fin 688) = ⟨16 * τ.val + b.val, by omega⟩ := Fin.ext (by show x.val / 16 = 16 * τ.val + b.val; omega)
  have e2 : (⟨x.val % 16, by omega⟩ : Fin 16) = ⟨2 * q.val + o.val, by omega⟩ := Fin.ext (by show x.val % 16 = 2 * q.val + o.val; omega)
  have e3 : x = ⟨256 * τ.val + lo (128 * o.val + (16 * q.val + b.val)), by rw [lo_eq]; omega⟩ :=
    Fin.ext (by show x.val = 256 * τ.val + lo (128 * o.val + (16 * q.val + b.val)); rw [lo_eq, hx])
  obtain ⟨r, hr, hg⟩ := Ref.g_pos V0
  rw [e0, e1, e2, rv_eq V0 x0 x2 p k h0 h2, ra_eq V0 x0 x2 p k h0 h2, hg, Num.ref_entry _ _ _ r hr ((D_le x0 x2 p τ b _).1 le_rfl q o)]
  unfold term Q
  rw [h1, h3, ← e3, mul_comm]

theorem dx_eq (h0 : ∀ n : Fin 11008, @Eq EReal (x0 (ix2 p n)) (Ref.W V0 (ix2 k n)))
    (h1 : ∀ n : Fin 11008, @Eq (BitVec 8) (x1 (ix2 p n)) (Ref.R1 V0 (ix2 k n)))
    (h2 : ∀ (n : Fin 11008) (c : Fin 256), @Eq EReal (x2 (ix2 n c)) (hv (n.val % 256) c.val * Ref.SG V0 (ix1 n)))
    (h3 : ∀ n : Fin 11008, @Eq EReal (x3 (ix2 n t)) (Ref.DY V0 (ix2 n t))) :
    Ref.dx V0 (ix2 t k) = ∑ τ : Fin 43, ∑ o : Fin 2, ∑ q : Fin 8, ∑ b : Fin 16, term x0 x1 x2 x3 p t τ o q b := by
  rw [Ref.dx_apply, Sums.sum_split 11008 43 256 rfl]
  refine Finset.sum_congr rfl fun τ _ => ?_
  rw [Sums.sum_split 256 16 16 rfl]
  have h : ∀ b : Fin 16, _ := fun b => Sums.sum_split 16 8 2 rfl
    (fun e : Fin 16 => (fun x : Fin 11008 => Ref.DY V0 (ix2 ⟨x.val / 256 * 256 + x.val % 2 * 128 + x.val / 2 % 8 * 16 + x.val / 16 % 16, by omega⟩ t) *
      Num.rw_ (Ref.rv V0 k ⟨x.val / 16, by omega⟩ ⟨x.val % 16, by omega⟩) (Ref.ra V0 k ⟨x.val / 16, by omega⟩) (Ref.g V0)
        (((Ref.R1 V0 (ix2 k x)).toNat : ℝ) : EReal)) ⟨256 * τ.val + (16 * b.val + e.val), by omega⟩)
  refine (Finset.sum_congr rfl fun b _ => (h b).trans (Finset.sum_congr rfl fun q _ => Finset.sum_congr rfl fun o _ =>
    entry_eq V0 x0 x1 x2 x3 p k t h0 h1 h2 h3 τ o q b _ rfl)).trans ?_
  rw [Finset.sum_comm]
  refine (Finset.sum_congr rfl fun q _ => Finset.sum_comm).trans ?_
  rw [Finset.sum_comm]

end

end Cert.RefSum
-- ==== Proof.Prefix.lean ====
/- The arrays the host prepares before the kernel's call: the rotation with its signs, tile by tile, and the permutation. -/
module

public import proofs.«01_k».proof.Proof.Gen.KernelIdeal.Value
public import proofs.«01_k».proof.Proof.Lit
public import proofs.«01_k».proof.Proof.RefSum
public import Idealize.ShloMosaic.Lib.Pointwise
public import Idealize.ShloMosaic.Lib.StableHlo.ReadAt

@[expose] public section

set_option maxRecDepth 16384

noncomputable section

namespace Cert.Prefix

open Cert.KernelIdeal Cert.KernelIdeal.Gen Idealize.ShloMosaic Idealize.ShloMosaic.TcCoe Idealize.SL.Sem

/-- The host's operations over any two tables. -/
def ops {F : FTy → Type} [FloatOps F] (T P : FVec F S256x256 .bf16) : List (HloOp τ sig (Elt F)) :=
  [ StableHlo.nullary main_cst T,
    StableHlo.nullary main_cst_0 P,
    StableHlo.reshape main_cst main_v0 (rfl : (.bf16 : EltTy) = .bf16) shapeCasts_S256x256_S1x256x1x256,
    StableHlo.unary main_v0 main_v1 (broadcastInDim S43x256x1x256 ![0, 1, 2, 3] bcast_S1x256x1x256_S43x256x1x256_0_1_2_3 : (⟨S1x256x1x256, .bf16⟩ : BufTy).Contents (Elt F) → (⟨S43x256x1x256, .bf16⟩ : BufTy).Contents (Elt F)),
    StableHlo.reshape main_v1 main_v2 (rfl : (.bf16 : EltTy) = .bf16) shapeCasts_S43x256x1x256_S11008x256,
    StableHlo.unary main_arg2 main_v3 ((truncf .bf16 · bitsLt_bf16_f32) : (⟨S11008, .f32⟩ : BufTy).Contents (Elt F) → (⟨S11008, .bf16⟩ : BufTy).Contents (Elt F)),
    StableHlo.unary main_v3 main_v4 (broadcastInDim S11008x1 ![0] bcast_S11008_S11008x1_0 : (⟨S11008, .bf16⟩ : BufTy).Contents (Elt F) → (⟨S11008x1, .bf16⟩ : BufTy).Contents (Elt F)),
    StableHlo.unary main_v4 main_v5 (broadcastInDim S11008x256 ![0, 1] bcast_S11008x1_S11008x256_0_1 : (⟨S11008x1, .bf16⟩ : BufTy).Contents (Elt F) → (⟨S11008x256, .bf16⟩ : BufTy).Contents (Elt F)),
    StableHlo.binary main_v2 main_v5 main_v6 (mulf : (⟨S11008x256, .bf16⟩ : BufTy).Contents (Elt F) → (⟨S11008x256, .bf16⟩ : BufTy).Contents (Elt F) → (⟨S11008x256, .bf16⟩ : BufTy).Contents (Elt F)) ]

/-- The rotation's table and the permutation's. -/
def hadT : FVec Ideal S256x256 .bf16 := fun i => FloatOps.ofBits .bf16 (lit0 (S256x256.rowMajor i))
def permT : FVec Ideal S256x256 .bf16 := fun i => FloatOps.ofBits .bf16 (lit1 (S256x256.rowMajor i))

theorem v6_at (T P : FVec Ideal S256x256 .bf16) (V0 : Valuation τ sig (Elt Ideal)) (n : Fin 11008) (k : Fin 256) :
    (StableHlo.after (ops T P) V0 (Proc.devRef .tc main_v6) : S11008x256.Idx → EReal) (ix2 n k) = T (ix2 ⟨n.val % 256, by omega⟩ k) * (V0 (Proc.devRef .tc main_arg2) : S11008.Idx → EReal) (ix1 n) := by
  unfold ops
  after_reads_at

theorem cst0_at (T P : FVec Ideal S256x256 .bf16) (V0 : Valuation τ sig (Elt Ideal)) :
    (StableHlo.after (ops T P) V0 (Proc.devRef .tc main_cst_0) : S256x256.Idx → EReal) = P := by
  unfold ops
  after_results

theorem V_eq (m : (ℓ : Loc nD τ sig) → Buf (Elt Ideal) ℓ) (c : Dev nD) (b : Ref sig .tc) :
    V m c b = StableHlo.after (ops hadT permT) (fun b => m (c, b)) (Proc.devRef .tc b) := rfl

theorem ofBits_bf16 (b : BitVec 16) : Ideal.ofBits .bf16 b = Ideal.ieee 8 7 b := rfl

/-- The words of the tables, as extended reals. -/
theorem word_one : Ideal.ofBits .bf16 0x3F80#16 = ((1 : ℝ) : EReal) := by
  rw [ofBits_bf16]; unfold Ideal.ieee
  have a : ((0x3F80#16).extractLsb' 7 8).toNat = 127 := by decide
  have b : ((0x3F80#16).extractLsb' 0 7).toNat = 0 := by decide
  have c : ((0x3F80#16).extractLsb' (8 + 7) 1 == 1#1) = false := by decide
  simp only [a, b, c]
  norm_num
theorem word_neg : Ideal.ofBits .bf16 0xBF80#16 = ((-1 : ℝ) : EReal) := by
  rw [ofBits_bf16]; unfold Ideal.ieee
  have a : ((0xBF80#16).extractLsb' 7 8).toNat = 127 := by decide
  have b : ((0xBF80#16).extractLsb' 0 7).toNat = 0 := by decide
  have c : ((0xBF80#16).extractLsb' (8 + 7) 1 == 1#1) = true := by decide
  simp only [a, b, c]
  norm_num
theorem word_zero : Ideal.ofBits .bf16 0#16 = 0 := by
  rw [ofBits_bf16]; unfold Ideal.ieee
  have a : ((0#16).extractLsb' 7 8).toNat = 0 := by decide
  have b : ((0#16).extractLsb' 0 7).toNat = 0 := by decide
  have c : ((0#16).extractLsb' (8 + 7) 1 == 1#1) = false := by decide
  simp only [a, b, c]
  norm_num
theorem word_nzero : Ideal.ofBits .bf16 0x8000#16 = 0 := by
  rw [ofBits_bf16]; unfold Ideal.ieee
  have a : ((0x8000#16).extractLsb' 7 8).toNat = 0 := by decide
  have b : ((0x8000#16).extractLsb' 0 7).toNat = 0 := by decide
  have c : ((0x8000#16).extractLsb' (8 + 7) 1 == 1#1) = true := by decide
  simp only [a, b, c]
  norm_num

theorem row_val (i k : Fin 256) : (S256x256.rowMajor (ix2 i k)).val = 256 * i.val + k.val := by
  rw [Shape.rowMajor_val_two]
  show i.val * 256 + k.val = 256 * i.val + k.val
  omega

theorem hadT_word (i k : Fin 256) : hadT (ix2 i k) = Ideal.ofBits .bf16 (lit0t (256 * i.val + k.val)) := by
  show Ideal.ofBits .bf16 (lit0 (S256x256.rowMajor (ix2 i k))) = _
  refine congrArg (fun z : ℕ => Ideal.ofBits .bf16 (lit0t z)) ?_
  exact row_val i k

theorem permT_word (i k : Fin 256) : permT (ix2 i k) = Ideal.ofBits .bf16 (lit1t (256 * i.val + k.val)) := by
  show Ideal.ofBits .bf16 (lit1 (S256x256.rowMajor (ix2 i k))) = _
  refine congrArg (fun z : ℕ => Ideal.ofBits .bf16 (lit1t z)) ?_
  exact row_val i k

theorem of_or {w : BitVec 16} (h : (w == 0#16 || w == 0x8000#16) = true) : Ideal.ofBits .bf16 w = 0 := by
  rw [Bool.or_eq_true, beq_iff_eq, beq_iff_eq] at h
  rcases h with h | h <;> rw [h]
  · exact word_zero
  · exact word_nzero

/-- A row of the rotation's table, from the decision of its words. -/
theorem hadT_of (i k : Fin 256) (h : Lit.hadRow i.val = true) : hadT (ix2 i k) = RefSum.hv i.val k.val := by
  rw [hadT_word]
  unfold Lit.hadRow at h
  have h := List.all_eq_true.1 h k.val (List.mem_range.2 k.isLt)
  generalize lit0t (256 * i.val + k.val) = w at h
  unfold RefSum.hv
  by_cases e : i.val / 32 = Lit.lo k.val / 32
  · rw [if_pos e] at h
    rw [if_pos (show i.val / 32 = DxSum.lo k.val / 32 from e), beq_iff_eq.1 h]
    show _ = if Lit.par (i.val % 32) (Lit.lo k.val % 32) = true then _ else _
    split
    · exact word_neg
    · exact word_one
  · rw [if_neg e] at h
    rw [if_neg (show ¬ i.val / 32 = DxSum.lo k.val / 32 from e)]
    exact of_or h

theorem permT_of (i k : Fin 256) (h : Lit.permRow i.val = true) : permT (ix2 i k) = if i.val = DxSum.lo k.val then ((-1 : ℝ) : EReal) else 0 := by
  rw [permT_word]
  unfold Lit.permRow at h
  have h := List.all_eq_true.1 h k.val (List.mem_range.2 k.isLt)
  generalize lit1t (256 * i.val + k.val) = w at h
  by_cases e : i.val = Lit.lo k.val
  · rw [if_pos e] at h
    rw [if_pos (show i.val = DxSum.lo k.val from e), beq_iff_eq.1 h]
    exact word_neg
  · rw [if_neg e] at h
    rw [if_neg (show ¬ i.val = DxSum.lo k.val from e)]
    exact of_or h

theorem V_rot (m : (ℓ : Loc nD τ sig) → Buf (Elt Ideal) ℓ) (c : Dev nD) (n : Fin 11008) (k : Fin 256) :
    (V m c main_v6 : S11008x256.Idx → EReal) (ix2 n k) = hadT (ix2 ⟨n.val % 256, by omega⟩ k) * (m ((c : Thread nD τ).loc main_arg2) : S11008.Idx → EReal) (ix1 n) := by
  rw [V_eq]
  exact v6_at _ _ _ n k

theorem V_perm (m : (ℓ : Loc nD τ sig) → Buf (Elt Ideal) ℓ) (c : Dev nD) : (V m c main_cst_0 : S256x256.Idx → EReal) = permT := by
  rw [V_eq]
  exact cst0_at _ _ _

end Cert.Prefix
-- ==== Proof.Exp.lean ====
/- The common exponent the kernel finds by bisection: it stays where the powers of two are finite and positive. -/
module

public import proofs.«01_k».proof.Proof.Num
public import proofs.«01_k».proof.Proof.Run

@[expose] public section

set_option maxRecDepth 16384

noncomputable section

namespace Cert.Exp

open Cert.KernelIdeal Cert.KernelIdeal.Gen Idealize.ShloMosaic Idealize.ShloMosaic.TcCoe Idealize.SL.Sem

abbrev V8 := FVec Ideal S8x128 .f32
abbrev I8 := IVec S8x128 32

def pow8 (e : I8) : V8 := bitcastToFloat .f32 (shli (addi e (broadcast S8x128 127#32)) (broadcast S8x128 23#32))
def step8 (v : V8) (e : I8) (k : BitVec 32) : I8 :=
  select (cmpf .oge v (pow8 (addi e (broadcast S8x128 k)))) (addi e (broadcast S8x128 k)) e

def bisect8 (v : V8) : I8 :=
  step8 v (step8 v (step8 v (step8 v (step8 v (step8 v (step8 v (step8 v (broadcast S8x128 4294967170#32)
    128#32) 64#32) 32#32) 16#32) 8#32) 4#32) 2#32) 1#32

def word8 (v : V8) (e : I8) : I8 :=
  addi (shli (addi e (broadcast S8x128 127#32)) (broadcast S8x128 23#32))
    (fptosi 32 (ceil (mulf (subf (mulf v (pow8 (subi (broadcast S8x128 0#32) e))) (broadcast S8x128 (Scalar.ofBits .f32 0x3F800000#32)))
      (broadcast S8x128 (Scalar.ofBits .f32 0x4B000000#32)))))

def last8 (a : V8) (w : I8) : I8 :=
  select (cmpf .oeq a (broadcast S8x128 (Scalar.ofBits .f32 0x00000000#32))) (broadcast S8x128 0#32)
    (subi (shrsi w (broadcast S8x128 23#32)) (broadcast S8x128 126#32))

def scaled8 (a : V8) : V8 := mulf a (broadcast S8x128 (Scalar.ofBits .f32 0x39C30C31#32))

/-- The exponent of the maximum, entry by entry. -/
def expo8 (a : V8) : I8 := last8 a (word8 (scaled8 a) (bisect8 (scaled8 a)))

/-- The same of one number. -/
def bisect (v : EReal) : BitVec 32 :=
  Num.step v (Num.step v (Num.step v (Num.step v (Num.step v (Num.step v (Num.step v (Num.step v 4294967170#32
    128#32) 64#32) 32#32) 16#32) 8#32) 4#32) 2#32) 1#32

def last (a : EReal) (w : BitVec 32) : BitVec 32 :=
  Scalar.select (Ideal.cmp .oeq a (Ideal.ofBits .f32 0x00000000#32)) 0#32 (IntOp.subi (IntOp.shrsi .vector w 23#32) 126#32)

def expo (a : EReal) : BitVec 32 :=
  last a (Num.word (a * Ideal.ofBits .f32 0x39C30C31#32) (bisect (a * Ideal.ofBits .f32 0x39C30C31#32)))

theorem step8_apply (v : V8) (e : I8) (k : BitVec 32) (y : S8x128.Idx) : step8 v e k y = Num.step (v y) (e y) k := rfl
theorem word8_apply (v : V8) (e : I8) (y : S8x128.Idx) : word8 v e y = Num.word (v y) (e y) := rfl
theorem last8_apply (a : V8) (w : I8) (y : S8x128.Idx) : last8 a w y = last (a y) (w y) := rfl
theorem bisect8_apply (v : V8) (y : S8x128.Idx) : bisect8 v y = bisect (v y) := by
  unfold bisect8 bisect
  rw [step8_apply, step8_apply, step8_apply, step8_apply, step8_apply, step8_apply, step8_apply, step8_apply]
  rfl
theorem expo8_apply (a : V8) (y : S8x128.Idx) : expo8 a y = expo (a y) := by
  unfold expo8 expo
  rw [last8_apply, word8_apply, bisect8_apply]
  rfl

theorem exp_eq (c : Dev nD) (arg8 : Memref sig .tc .vmem S8x128 .f32) (harg8 : arg8.IsWhole) (x7 : Vec Ideal S8x128 .f32) (y : S128x128.Idx) :
    Run.exp c arg8 harg8 x7 y = expo (k0_pay2 (F := Ideal) (View.readAt (Elt Ideal) arg8.view (Rect.unit (s := S8x128) ![0, 0] S8x128.size inb_S8x128_S8x128_0_0).toLoadRect
      (harg8.unread x7)) (ix2 ⟨0, by decide⟩ (y 1))) := by
  have h : Run.exp c arg8 harg8 x7 = k0_pay11 (expo8 (k0_pay2 (F := Ideal) (View.readAt (Elt Ideal) arg8.view (Rect.unit (s := S8x128) ![0, 0] S8x128.size inb_S8x128_S8x128_0_0).toLoadRect
      (harg8.unread x7)))) := rfl
  rw [h, ← expo8_apply]
  unfold k0_pay11
  pointwise

/-- The largest entry. -/
def biggest (z : Vec Ideal S8x128 .f32) : EReal :=
  Finset.fold max (Ideal.ofBits FTy.f32 4286578688#32)
    (fun x => Finset.fold max (Ideal.ofBits FTy.f32 4286578688#32) (fun x_1 => z (ix2 x x_1)) Finset.univ) Finset.univ

theorem max_eq (z : Vec Ideal S8x128 .f32) (y : S8x128.Idx) : k0_pay2 (F := Ideal) z y = biggest z * Ideal.ofBits .f32 0x3E3504F3#32 := by
  unfold k0_pay2 biggest
  pointwise

theorem bot_word : Ideal.ofBits FTy.f32 4286578688#32 = ⊥ := by
  rw [Num.ofBits_f32]; unfold Ideal.ieee
  have a : ((4286578688#32).extractLsb' 23 8).toNat = 255 := by decide
  have b : ((4286578688#32).extractLsb' 0 23).toNat = 0 := by decide
  have c : ((4286578688#32).extractLsb' (8 + 23) 1 == 1#1) = true := by decide
  simp only [a, b, c]
  norm_num

theorem biggest_le (z : Vec Ideal S8x128 .f32) (b : EReal) (h : ∀ i, z i ≤ b) : biggest z ≤ b := by
  have bot : Ideal.ofBits FTy.f32 4286578688#32 ≤ b := by
    rw [bot_word]; exact bot_le
  unfold biggest
  exact (Finset.fold_max_le _).2 ⟨bot, fun x _ => (Finset.fold_max_le _).2 ⟨bot, fun y _ => h _⟩⟩

theorem le_biggest (z : Vec Ideal S8x128 .f32) (b : EReal) (h : ∀ i, b ≤ z i) : b ≤ biggest z := by
  unfold biggest
  exact (Finset.le_fold_max _).2 (.inr ⟨(0 : Fin 8), Finset.mem_univ _, (Finset.le_fold_max _).2 (.inr ⟨(0 : Fin 128), Finset.mem_univ _, h _⟩)⟩)

/-- One step of the bisection. -/
theorem step_spec (v : ℝ) (E k : ℤ) (hk : 0 < k) (h0 : -126 ≤ E) (h1 : E = -126 ∨ (2 : ℝ) ^ E ≤ v) (h2 : v < (2 : ℝ) ^ (E + 2 * k))
    (h3 : E + k ≤ 127) :
    ∃ E' : ℤ, Num.step (v : EReal) (BitVec.ofInt 32 E) (BitVec.ofInt 32 k) = BitVec.ofInt 32 E' ∧ (E' = E ∨ E' = E + k) ∧
      (E' = -126 ∨ (2 : ℝ) ^ E' ≤ v) ∧ v < (2 : ℝ) ^ (E' + k) := by
  unfold Num.step IntOp.addi
  rw [← BitVec.ofInt_add, Num.pow2_ofInt _ (by omega) h3, Num.oge_coe]
  by_cases h : (2 : ℝ) ^ (E + k) ≤ v
  · rw [decide_eq_true h]
    exact ⟨E + k, rfl, .inr rfl, .inr h, by rwa [add_assoc, ← two_mul]⟩
  · rw [decide_eq_false h]
    exact ⟨E, rfl, .inl rfl, h1, not_le.1 h⟩

theorem bisect_spec (v : ℝ) (hv : v < (2 : ℝ) ^ (120 : ℤ)) :
    ∃ E : ℤ, bisect (v : EReal) = BitVec.ofInt 32 E ∧ -126 ≤ E ∧ E < 120 ∧ (E = -126 ∨ (2 : ℝ) ^ E ≤ v) ∧ v < (2 : ℝ) ^ (E + 1) := by
  have lt (E : ℤ) (h : E = -126 ∨ (2 : ℝ) ^ E ≤ v) : E < 120 := by
    rcases h with h | h
    · omega
    · exact (zpow_lt_zpow_iff_right₀ (by norm_num : (1 : ℝ) < 2)).1 (lt_of_le_of_lt h hv)
  obtain ⟨E1, e1, c1, l1, u1⟩ := step_spec v (-126) 128 (by norm_num) (by norm_num) (.inl rfl)
    (lt_trans hv (zpow_lt_zpow_right₀ (by norm_num) (by norm_num))) (by norm_num)
  obtain ⟨E2, e2, c2, l2, u2⟩ := step_spec v E1 64 (by norm_num) (by omega) l1 (by simpa using u1) (by omega)
  obtain ⟨E3, e3, c3, l3, u3⟩ := step_spec v E2 32 (by norm_num) (by omega) l2 (by simpa using u2) (by omega)
  obtain ⟨E4, e4, c4, l4, u4⟩ := step_spec v E3 16 (by norm_num) (by omega) l3 (by simpa using u3) (by omega)
  obtain ⟨E5, e5, c5, l5, u5⟩ := step_spec v E4 8 (by norm_num) (by omega) l4 (by simpa using u4) (by have := lt _ l4; omega)
  obtain ⟨E6, e6, c6, l6, u6⟩ := step_spec v E5 4 (by norm_num) (by omega) l5 (by simpa using u5) (by have := lt _ l5; omega)
  obtain ⟨E7, e7, c7, l7, u7⟩ := step_spec v E6 2 (by norm_num) (by omega) l6 (by simpa using u6) (by have := lt _ l6; omega)
  obtain ⟨E8, e8, c8, l8, u8⟩ := step_spec v E7 1 (by norm_num) (by omega) l7 (by simpa using u7) (by have := lt _ l7; omega)
  refine ⟨E8, ?_, by omega, lt _ l8, l8, u8⟩
  unfold bisect
  rw [show 4294967170#32 = BitVec.ofInt 32 (-126) from rfl, show 128#32 = BitVec.ofInt 32 128 from rfl, e1,
    show 64#32 = BitVec.ofInt 32 64 from rfl, e2, show 32#32 = BitVec.ofInt 32 32 from rfl, e3,
    show 16#32 = BitVec.ofInt 32 16 from rfl, e4, show 8#32 = BitVec.ofInt 32 8 from rfl, e5,
    show 4#32 = BitVec.ofInt 32 4 from rfl, e6, show 2#32 = BitVec.ofInt 32 2 from rfl, e7,
    show 1#32 = BitVec.ofInt 32 1 from rfl, e8]

/-- The word's exponent field, less 126. -/
theorem top_field (w : ℕ) (hw : w < 2147483648) : IntOp.subi (IntOp.shrsi .vector (BitVec.ofNat 32 w) 23#32) 126#32 = BitVec.ofInt 32 (w / 8388608 - 126 : ℤ) := by
  have h : IntOp.shrsi .vector (BitVec.ofNat 32 w) 23#32 = BitVec.ofInt 32 (w / 8388608 : ℤ) := by
    unfold IntOp.shrsi
    rw [if_pos (by decide)]
    apply BitVec.eq_of_toInt_eq
    have e : (BitVec.ofNat 32 w).toInt = w := by
      rw [BitVec.toInt_eq_toNat_of_lt] <;> rw [BitVec.toNat_ofNat] <;> omega
    rw [BitVec.sshiftRight_eq', BitVec.toInt_sshiftRight, e, Int.shiftRight_eq_div_pow, BitVec.toInt_ofInt, Int.bmod_eq_of_le] <;> norm_num <;> omega
  rw [h]
  unfold IntOp.subi
  rw [sub_eq_add_neg, BitVec.ofInt_add, BitVec.sub_eq_add_neg]; rfl

theorem fptosi_int (k : ℤ) (h : -2147483648 ≤ k) (h' : k < 2147483648) : Ideal.fptosi 32 ((k : ℝ) : EReal) = BitVec.ofInt 32 k := by
  unfold Ideal.fptosi
  show BitVec.ofInt 32 (max _ (min _ (if (0 : ℝ) ≤ (k : ℝ) then ⌊(k : ℝ)⌋ else ⌈(k : ℝ)⌉))) = _
  rw [Int.floor_intCast, Int.ceil_intCast, ite_self]
  rw [min_eq_right (by norm_num; omega), max_eq_right (by norm_num; omega)]

/-- The word of a number below twice the power of its exponent. -/
theorem word_spec (v : ℝ) (E : ℤ) (h0 : 0 ≤ v) (h1 : v < (2 : ℝ) ^ (E + 1)) (he : -126 ≤ E) (he' : E ≤ 120) :
    ∃ w : ℕ, Num.word (v : EReal) (BitVec.ofInt 32 E) = BitVec.ofNat 32 w ∧ w ≤ 248 * 8388608 := by
  have hs : IntOp.shli .vector (IntOp.addi (BitVec.ofInt 32 E) 127#32) 23#32 = BitVec.ofNat 32 ((E + 127).toNat * 8388608) := by
    unfold IntOp.shli IntOp.addi
    rw [if_pos (by decide)]
    have : BitVec.ofInt 32 E + 127#32 = BitVec.ofNat 32 (E + 127).toNat := by
      apply BitVec.eq_of_toNat_eq
      simp [BitVec.toNat_add, BitVec.toNat_ofInt, BitVec.toNat_ofNat]; omega
    rw [this]
    apply BitVec.eq_of_toNat_eq
    simp [BitVec.toNat_ofNat, Nat.shiftLeft_eq]
  have hn : IntOp.subi 0#32 (BitVec.ofInt 32 E) = BitVec.ofInt 32 (-E) := by
    unfold IntOp.subi
    rw [BitVec.ofInt_neg]; simp
  have hp : (0 : ℝ) < 2 ^ (-E) := by positivity
  have hu : v * 2 ^ (-E) < 2 := by
    have : v * 2 ^ (-E) < (2 : ℝ) ^ (E + 1) * 2 ^ (-E) := mul_lt_mul_of_pos_right h1 hp
    rwa [← zpow_add₀ (by norm_num : (2 : ℝ) ≠ 0), show E + 1 + -E = 1 by ring, zpow_one] at this
  have hl : 0 ≤ v * 2 ^ (-E) := by positivity
  generalize hx : v * (2 : ℝ) ^ (-E) = x at hu hl
  have hc : -8388608 ≤ ⌈(x - 1) * 8388608⌉ := by
    have : ((-8388608 : ℤ) : ℝ) ≤ (x - 1) * 8388608 := by push_cast; linarith
    exact_mod_cast this.trans (Int.le_ceil _)
  have hc' : ⌈(x - 1) * 8388608⌉ ≤ 8388608 := by
    rw [Int.ceil_le]; push_cast; linarith
  refine ⟨((E + 127).toNat * 8388608 + ⌈(x - 1) * 8388608⌉).toNat, ?_, by omega⟩
  unfold Num.word
  rw [hs, hn, Num.pow2_ofInt _ (by omega) (by omega), Num.lit_one, Num.lit_23, ← EReal.coe_mul, hx, ← EReal.coe_sub, ← EReal.coe_mul,
    Ideal.liftRound_coe, fptosi_int _ (by omega) (by omega)]
  generalize ⌈(x - 1) * 8388608⌉ = c at hc hc'
  unfold IntOp.addi
  apply BitVec.eq_of_toNat_eq
  rw [BitVec.toNat_add, BitVec.toNat_ofInt, BitVec.toNat_ofNat, BitVec.toNat_ofNat]
  omega

theorem lit_den : Ideal.ofBits .f32 0x39C30C31#32 = ((12782641 / 34359738368 : ℝ) : EReal) := by
  rw [Num.ofBits_f32]; unfold Ideal.ieee
  have a : ((0x39C30C31#32).extractLsb' 23 8).toNat = 115 := by decide
  have b : ((0x39C30C31#32).extractLsb' 0 23).toNat = 4394033 := by decide
  have c : ((0x39C30C31#32).extractLsb' (8 + 23) 1 == 1#1) = false := by decide
  simp only [a, b, c]
  norm_num

/-- The exponent of a number within range is within range. -/
theorem expo_spec (a : ℝ) (h0 : 0 ≤ a) (h1 : a < (2 : ℝ) ^ (128 : ℤ)) : ∃ E : ℤ, expo (a : EReal) = BitVec.ofInt 32 E ∧ -126 ≤ E ∧ E ≤ 126 := by
  have hv : a * (12782641 / 34359738368) < (2 : ℝ) ^ (120 : ℤ) := by
    have : (2 : ℝ) ^ (128 : ℤ) = 2 ^ (120 : ℤ) * 256 := by rw [show (128 : ℤ) = 120 + 8 by rfl, zpow_add₀ (by norm_num)]; norm_num
    have p : (0 : ℝ) < 2 ^ (120 : ℤ) := by positivity
    rw [this] at h1
    generalize (2 : ℝ) ^ (120 : ℤ) = b at h1 p ⊢
    linarith
  obtain ⟨E, e, l, u, _, b⟩ := bisect_spec _ hv
  obtain ⟨w, hw, hw'⟩ := word_spec _ E (by positivity) b l (by omega)
  unfold expo last
  rw [lit_den, ← EReal.coe_mul, e, hw, top_field _ (by omega)]
  unfold Scalar.select
  split
  · exact ⟨0, rfl, by norm_num, by norm_num⟩
  · exact ⟨_, rfl, by omega, by omega⟩

end Cert.Exp
-- ==== Proof.ExpOk.lean ====
/- The kernel's exponent, where the maxima given are finite and nonnegative: a word between -126 and 126, the same in every entry. -/
module

public import proofs.«01_k».proof.Proof.Exp
public import proofs.«01_k».proof.Proof.Scale
public import proofs.«01_k».proof.Pre_finite
public import Idealize.ShloMosaic.Lib.ReduceAll

@[expose] public section

set_option maxRecDepth 16384

noncomputable section

namespace Cert.ExpOk

open Cert.KernelIdeal Cert.KernelIdeal.Gen Idealize.ShloMosaic Idealize.ShloMosaic.TcCoe Idealize.SL.Sem

/-- The largest float. -/
def big : ℝ := 16777215 * (2 : ℝ) ^ (104 : ℤ)

theorem lit_big : Ideal.ofBits .f32 0x7F7FFFFF#32 = (big : EReal) := by
  rw [Num.ofBits_f32]; unfold Ideal.ieee big
  have a : ((0x7F7FFFFF#32).extractLsb' 23 8).toNat = 254 := by decide
  have b : ((0x7F7FFFFF#32).extractLsb' 0 23).toNat = 8388607 := by decide
  have c : ((0x7F7FFFFF#32).extractLsb' (8 + 23) 1 == 1#1) = false := by decide
  simp only [a, b, c]
  norm_num

theorem lit_zero : Ideal.ofBits .f32 0#32 = 0 := by
  rw [Num.ofBits_f32]; unfold Ideal.ieee
  have a : ((0#32).extractLsb' 23 8).toNat = 0 := by decide
  have b : ((0#32).extractLsb' 0 23).toNat = 0 := by decide
  have c : ((0#32).extractLsb' (8 + 23) 1 == 1#1) = false := by decide
  simp only [a, b, c]
  norm_num

theorem load_eq (arg8 : Memref sig .tc .vmem S8x128 .f32) (harg8 : arg8.IsWhole) (x7 : Vec Ideal S8x128 .f32) :
    View.readAt (Elt Ideal) arg8.view (Rect.unit (s := S8x128) ![0, 0] S8x128.size inb_S8x128_S8x128_0_0).toLoadRect (harg8.unread x7) = x7 := by
  funext y
  rw [View.readAt_eq_ld, harg8.read_unread]
  refine congrArg x7 ?_
  funext a
  refine Fin.ext ?_
  fin_cases a
  · show 0 + 1 * (y 0).val = (y 0).val
    omega
  · show 0 + 1 * (y 1).val = (y 1).val
    omega

theorem exp_ok (c : Dev nD) (arg8 : Memref sig .tc .vmem S8x128 .f32) (harg8 : arg8.IsWhole) (x7 : Vec Ideal S8x128 .f32)
    (h0 : ∀ i, (0 : EReal) ≤ x7 i) (h1 : ∀ i, @LE.le EReal _ (x7 i) (big : EReal)) :
    ∃ E : ℤ, -126 ≤ E ∧ E ≤ 126 ∧ ∀ y, Run.exp c arg8 harg8 x7 y = BitVec.ofInt 32 E := by
  have l : (0 : EReal) ≤ Exp.biggest x7 := Exp.le_biggest _ _ h0
  have u : Exp.biggest x7 ≤ (big : EReal) := Exp.biggest_le _ _ h1
  obtain ⟨r, hr⟩ : ∃ r : ℝ, Exp.biggest x7 = (r : EReal) :=
    ⟨(Exp.biggest x7).toReal, (EReal.coe_toReal (fun e => absurd (e ▸ u) (not_le.2 (EReal.coe_lt_top _)))
      (fun e => absurd (e ▸ l) (not_le.2 (EReal.bot_lt_coe 0)))).symm⟩
  rw [hr] at l u
  have l' : 0 ≤ r := EReal.coe_nonneg.1 l
  have u' : r ≤ big := EReal.coe_le_coe_iff.1 u
  have hc : Num.cH ≤ 1 := by unfold Num.cH; norm_num
  have hc0 : 0 ≤ Num.cH := Num.cH_pos.le
  obtain ⟨E, hE, hl, hu⟩ := Exp.expo_spec (r * Num.cH) (mul_nonneg l' hc0)
    (lt_of_le_of_lt (mul_le_of_le_one_right l' hc) (lt_of_le_of_lt u' (by unfold big; norm_num)))
  refine ⟨E, hl, hu, fun y => ?_⟩
  rw [Exp.exp_eq, load_eq, Exp.max_eq, hr, Num.lit_cH, ← EReal.coe_mul]
  exact hE

/-- What the precondition says of each entry of the maxima. -/
theorem pre_entry [Cert.Pre_finite.Facts] (a0 a1 a2 a3 a4 a5) (a6 : FVec Ideal S8x128 .f32)
    (h : Cert.Pre_finite.fn (F := Ideal) a0 a1 a2 a3 a4 a5 a6 = fun _ => 1#1) (i : S8x128.Idx) :
    (0 : EReal) ≤ a6 i ∧ @LE.le EReal _ (a6 i) (big : EReal) := by
  unfold Cert.Pre_finite.fn at h
  have h := @Host.reduce_andi_all _ _ _ _ ⟨fun _ _ => funext fun x => x.elim0⟩ _ _ _ _ _ (congrFun h (fun a => a.elim0)) i
  have h : IntOp.andi (Ideal.cmp .oge (a6 i) (Ideal.ofBits .f32 0#32)) (Ideal.cmp .ole (a6 i) (Ideal.ofBits .f32 0x7F7FFFFF#32)) = 1#1 := h
  obtain ⟨l, u⟩ := IntOp.andi_eq_one.1 h
  rw [lit_zero] at l
  rw [lit_big] at u
  constructor
  · by_contra hn
    simp [Ideal.cmp, hn] at l
  · by_contra hn
    simp [Ideal.cmp, hn] at u

end Cert.ExpOk
-- ==== Proof.DxArr.lean ====
/- The kernel's whole `dx` array: block `i` is the reference's columns `128 i` to `128 i + 127`. -/
module

public import proofs.«01_k».proof.Proof.Prefix
public import proofs.«01_k».proof.Proof.ExpOk
public import Idealize.ShloMosaic.Lib.Pipeline.ValueKit

@[expose] public section

set_option maxRecDepth 16384

noncomputable section

namespace Cert.DxArr

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

theorem idx11 : ∀ t : Fin cfg0.N, win0_11.index t = ![0, (grid0.coords t 0).val] :=
  (by decide +kernel : ∀ t : Fin grid0.N, _)
theorem idx0 : ∀ t : Fin cfg0.N, win0_0.index t = ![(grid0.coords t 0).val, 0] :=
  (by decide +kernel : ∀ t : Fin grid0.N, _)
theorem idx1 : ∀ t : Fin cfg0.N, win0_1.index t = ![(grid0.coords t 0).val, 0] :=
  (by decide +kernel : ∀ t : Fin grid0.N, _)
theorem idx2 : ∀ t : Fin cfg0.N, win0_2.index t = ![0, 0] :=
  (by decide +kernel : ∀ t : Fin grid0.N, _)
theorem idx3 : ∀ t : Fin cfg0.N, win0_3.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)

/-- A row of a point's block of the weights is a row of the array. -/
theorem row_lt (t : Fin cfg0.N) (p : Fin 128) : 128 * (grid0.coords t 0).val + p.val < 4096 := by
  have := (grid0.coords t 0).isLt
  have h : (grid0.coords t 0).val < 32 := this
  omega

theorem blk0 (c : Dev nD) (t : Fin cfg0.N) (p : Fin 128) (n : Fin 11008) :
    @Eq EReal ((iblk m c 0 t : S128x11008.Idx → EReal) (ix2 p n)) ((m ((c.tc : Thread nD τ).loc main_arg0) : S4096x11008.Idx → EReal) (ix2 ⟨128 * (grid0.coords t 0).val + p.val, row_lt t p⟩ n)) := by
  blk_ext [iblk, V, idx0]

theorem blk1 (c : Dev nD) (t : Fin cfg0.N) (p : Fin 128) (n : Fin 11008) :
    @Eq (BitVec 8) ((iblk m c 1 t : S128x11008.Idx → BitVec 8) (ix2 p n)) ((m ((c.tc : Thread nD τ).loc main_arg1) : S4096x11008.Idx → BitVec 8) (ix2 ⟨128 * (grid0.coords t 0).val + p.val, row_lt t p⟩ n)) := by
  blk_ext [iblk, V, idx1]

theorem blk2 (c : Dev nD) (t : Fin cfg0.N) (y : S11008x256.Idx) :
    @Eq EReal ((iblk m c 2 t : S11008x256.Idx → EReal) y) ((V m c main_v6 : S11008x256.Idx → EReal) y) := by
  have h : ∀ A : S11008x256.Idx → EReal, @Eq EReal (((cfg0.win 2).blk t).view.read (Elt Ideal) A y) (A y) := by
    intro A
    blk_ext [idx2]
  exact h _

theorem blk3 (c : Dev nD) (t : Fin cfg0.N) (y : S11008x256.Idx) :
    @Eq EReal ((iblk m c 3 t : S11008x256.Idx → EReal) y) ((m ((c.tc : Thread nD τ).loc main_arg3) : S11008x256.Idx → EReal) y) := by
  blk_ext [iblk, V, idx3]

theorem blk6 (c : Dev nD) (t : Fin cfg0.N) (y : S256x256.Idx) :
    @Eq EReal ((iblk m c 6 t : S256x256.Idx → EReal) y) ((V m c main_cst_0 : S256x256.Idx → EReal) y) := by
  have h : ∀ A : S256x256.Idx → EReal, @Eq EReal (((cfg0.win 6).blk t).view.read (Elt Ideal) A y) (A y) := by
    intro A
    blk_ext [idx6]
  exact h _

theorem blk7 (c : Dev nD) (t : Fin cfg0.N) (y : S8x128.Idx) :
    @Eq EReal ((iblk m c 7 t : S8x128.Idx → EReal) y) ((m ((c.tc : Thread nD τ).loc main_arg6) : S8x128.Idx → EReal) y) := by
  blk_ext [iblk, V, idx7]

theorem blk11 (t : Fin cfg0.N) (y : ((cfg0.win 11).xblock (cfg0.grid.coords t)).Idx) (B : S256x4096.Idx → EReal) :
    B (ix2 (y 0) ⟨128 * (grid0.coords t 0).val + (y 1).val, row_lt t (y 1)⟩) = B (((View.whole main_v7_3).slice (win0_11.rect t)).emb y) := by
  blk_ext [idx11]

/-- The kernel's whole `dx` array is the reference's, where both start from the same arrays and the maxima are finite. -/
theorem arr_eq (c : Dev nD) (V0 : Ref.Val0)
    (hhad : ∀ i : ℕ, i < 256 → Lit.hadRow i = true) (hperm : ∀ i : ℕ, i < 256 → Lit.permRow i = true)
    (h0 : Ref.W V0 = (m ((c.tc : Thread nD τ).loc main_arg0) : S4096x11008.Idx → EReal))
    (h1 : Ref.R1 V0 = (m ((c.tc : Thread nD τ).loc main_arg1) : S4096x11008.Idx → BitVec 8))
    (h2 : Ref.SG V0 = (m ((c.tc : Thread nD τ).loc main_arg2) : S11008.Idx → EReal))
    (h3 : Ref.DY V0 = (m ((c.tc : Thread nD τ).loc main_arg3) : S11008x256.Idx → EReal))
    (h6 : ∀ i : S8x128.Idx, (0 : EReal) ≤ (m ((c.tc : Thread nD τ).loc main_arg6) : S8x128.Idx → EReal) i ∧
      @LE.le EReal _ ((m ((c.tc : Thread nD τ).loc main_arg6) : S8x128.Idx → EReal) i) (ExpOk.big : EReal)) :
    (dats m 0 c).arrAt 11 cfg0.N = (Ref.dx V0 : S256x4096.Idx → EReal) := by
  refine (dats m 0 c).arrAt_eq_of_covers 11 _ (by decide +kernel) fun t hf y => ?_
  obtain ⟨E, hl, hu, hE⟩ := ExpOk.exp_ok c (ms0_7 t) (hs0_7 t) (iblk m c 7 t) (fun i => by rw [blk7]; exact (h6 i).1) (fun i => by rw [blk7]; exact (h6 i).2)
  blk_simp
  rw [after0_11]
  simp only [outsAt0]
  rw [DxSum.dx_sum (hp := fun i l => by rw [blk6, Prefix.V_perm]; exact Prefix.permT_of i l (hperm i.val i.isLt)) (E := E) (hE := hl) (hE' := hu) (he := hE)]
  refine (RefSum.dx_eq V0 _ _ _ _ _ ⟨128 * (grid0.coords t 0).val + (y 1).val, row_lt t (y 1)⟩ _ (fun n => ?_) (fun n => ?_) (fun n k => ?_) (fun n => ?_)).symm.trans ?_
  · rw [h0]; exact blk0 m c t (y 1) n
  · rw [h1]; exact blk1 m c t (y 1) n
  · rw [h2]
    refine (blk2 m c t (ix2 n k)).trans ((Prefix.V_rot m c n k).trans ?_)
    rw [Prefix.hadT_of _ _ (hhad _ (Nat.mod_lt _ (by decide)))]
  · rw [h3]; exact blk3 m c t (ix2 n (y 0))
  · exact blk11 t y (Ref.dx V0)

end Cert.DxArr
-- ==== Proof.LitHad.lean ====
/- Every row of the rotation's table holds the words it should. -/
module

public import proofs.«01_k».proof.Proof.Lit

@[expose] public section

set_option maxRecDepth 65536
set_option maxHeartbeats 0

namespace Cert.Lit

/-- The 256 rows, each decided on its own. -/
theorem had_all : ∀ i : ℕ, i < 256 → hadRow i = true := by
  intro i hi
  interval_cases i <;> decide +kernel

end Cert.Lit
-- ==== Proof.LitPerm.lean ====
/- Every row of the permutation's table holds the words it should. -/
module

public import proofs.«01_k».proof.Proof.Lit

@[expose] public section

set_option maxRecDepth 65536
set_option maxHeartbeats 0

namespace Cert.Lit

/-- The 256 rows, each decided on its own. -/
theorem perm_all : ∀ i : ℕ, i < 256 → permRow i = true := by
  intro i hi
  interval_cases i <;> decide +kernel

end Cert.Lit
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Dw
public import proofs.«01_k».proof.Proof.DxArr
public import proofs.«01_k».proof.Proof.LitHad
public import proofs.«01_k».proof.Proof.LitPerm
public import proofs.«01_k».proof.Pre_finite
public import Idealize.ShloMosaic.Adequacy
public import Idealize.ShloMosaic.Init

@[expose] public section

noncomputable section

namespace Cert.Proof

open Idealize.ShloMosaic Idealize.SL.Sem

/-- The kernel's frame, in floating point. -/
theorem frame_K : Cert.quiescent_Kernel (hKernel := Cert.Kernel.Gen.facts) := fun m ρ _ => Cert.Kernel.Gen.frame m ρ

/-- The kernel's frame, over the extended reals. -/
theorem frame_KI : Cert.quiescent_KernelIdeal (hKernelIdeal := Cert.KernelIdeal.Gen.facts) :=
  fun m ρ _ => Cert.KernelIdeal.Gen.frame m ρ

/-- The reference's frame: its program has no semaphores and leaves its arguments as they were. -/
theorem frame_RI : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The reference's product, at an index: the same sum as `Cert.Dw.prod`. -/
theorem ref_eq (a : FVec Ideal Cert.ReferenceIdeal.S4096x256 .bf16) (b : FVec Ideal Cert.ReferenceIdeal.S256x11008 .bf16) :
    (Host.dotGeneral Cert.ReferenceIdeal.dot_S4096x256_S256x11008_S4096x11008_1_0_0_1_n_n none a b :
      FVec Ideal Cert.ReferenceIdeal.S4096x11008 .f32) = Cert.Dw.prod a b := by
  funext j
  unfold Cert.Dw.prod
  pointwise

/-- The side conditions of the precondition's operations. -/
theorem pre_facts : Cert.Pre_finite.Facts := ⟨by decide, by decide, by decide⟩

/-- The kernel's `dx` is the product of the decoded `dy` and the rounded rotated weights, and its `dw` the product of the two
    decoded arrays. -/
theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => Cert.Ref.dx (StableHlo.launchContents m' c), fun c => Cert.Dw.prod (m ((c.tc : Thread _ _).loc Cert.KernelIdeal.main_arg5))
    (m ((c.tc : Thread _ _).loc Cert.KernelIdeal.main_arg4)), ?_, ?_⟩
  · refine (θ_run (Cert.KernelIdeal.defs (F := Ideal)) _ _).mono (fun r h c => ?_) (Cert.KernelIdeal.Value.run_blocks m g)
    obtain ⟨-, -, -, h3, h4, h⟩ := h c
    refine ⟨h3.trans ?_, h4.trans (Cert.Dw.arr_eq m c), h⟩
    exact Cert.DxArr.arr_eq m c _ Cert.Lit.had_all Cert.Lit.perm_all (hargs c).1 (hargs c).2.1 (hargs c).2.2.1 (hargs c).2.2.2.1
      fun i => @Cert.ExpOk.pre_entry pre_facts _ _ _ _ _ _ _ (hpre c) i
  · refine (θ_run (Cert.ReferenceIdeal.defs (F := Ideal)) _ _).mono (fun r h c => ?_) (Cert.ReferenceIdeal.Value.run m' g')
    refine ⟨(h c).1.trans (Cert.ReferenceIdeal.Value.val3_main_v106 (StableHlo.launchContents m' c)).symm, (h c).2.1.trans ?_, (h c).2.2⟩
    refine (ref_eq _ _).trans ?_
    exact congrArg₂ Cert.Dw.prod (hargs c).2.2.2.2.2.1 (hargs c).2.2.2.2.1

theorem claim : Cert.Claim := ⟨Cert.Kernel.Gen.facts, Cert.KernelIdeal.Gen.facts, Cert.ReferenceIdeal.Gen.facts, pre_facts,
  frame_K, frame_KI, fun m ρ _ => frame_KI m ρ trivial, frame_RI, fun m ρ _ => frame_RI m ρ trivial, trivial, algebraic⟩

end Cert.Proof

end
